-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 256, 256]⟩ ⟨4, ![2, 2, 256, 256]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x256x256 : Shape := ⟨4, ![1, 1, 256, 256]⟩
abbrev S256x256 : Shape := ⟨2, ![256, 256]⟩
abbrev S16 : Shape := ⟨1, ![16]⟩
abbrev S_ : Shape := ⟨0, ![]⟩
abbrev S1 : Shape := ⟨1, ![1]⟩
abbrev S32x256 : Shape := ⟨2, ![32, 256]⟩

abbrev nBuf : Space → Nat
  | .hbm => 3
  | .vmem => 4
  | .smem => 0
  | _ => 0

abbrev bufTy : (tb : Table) → Fin (tcTables nBuf tb) → BufTy
  | .hbm, ⟨0, _⟩ => ⟨S1x1x256x256, .f32⟩
  | .hbm, ⟨1, _⟩ => ⟨S256x256, .f32⟩
  | .hbm, ⟨2, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | _, _ => ⟨S1x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v17 : BitVec 32 := Scalar.muli v2 c2_i32_14
  let v18 : BitVec 32 := Scalar.addi c0_i32_15 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v19 : BitVec 32 := Scalar.muli v6 c1_i32_16
  let v20 : BitVec 32 := Scalar.addi v18 v19
  v20.toNat
def k0_dev4 (d0 : Dev nD) : Nat :=
  let c0_i32_23 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_22 : BitVec 32 := 2#32
  let v27 : BitVec 32 := Scalar.muli v7 c2_i32_22
  let v28 : BitVec 32 := Scalar.addi c0_i32_23 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v29 : BitVec 32 := Scalar.muli v5 c1_i32_24
  let v30 : BitVec 32 := Scalar.addi v28 v29
  v30.toNat
def k0_dev5 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v37 : BitVec 32 := Scalar.muli v2 c2_i32_30
  let v38 : BitVec 32 := Scalar.addi c0_i32_31 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v39 : BitVec 32 := Scalar.muli v6 c1_i32_32
  let v40 : BitVec 32 := Scalar.addi v38 v39
  v40.toNat
def k0_dev6 (d0 : Dev nD) : Nat :=
  let c0_i32_38 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_37 : BitVec 32 := 2#32
  let v47 : BitVec 32 := Scalar.muli v7 c2_i32_37
  let v48 : BitVec 32 := Scalar.addi c0_i32_38 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v49 : BitVec 32 := Scalar.muli v5 c1_i32_39
  let v50 : BitVec 32 := Scalar.addi v48 v49
  v50.toNat
def k0_dev7 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v57 : BitVec 32 := Scalar.muli v2 c2_i32_45
  let v58 : BitVec 32 := Scalar.addi c0_i32_46 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v59 : BitVec 32 := Scalar.muli v6 c1_i32_47
  let v60 : BitVec 32 := Scalar.addi v58 v59
  v60.toNat
def k0_dev8 (d0 : Dev nD) : Nat :=
  let c0_i32_53 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_52 : BitVec 32 := 2#32
  let v67 : BitVec 32 := Scalar.muli v7 c2_i32_52
  let v68 : BitVec 32 := Scalar.addi c0_i32_53 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v69 : BitVec 32 := Scalar.muli v5 c1_i32_54
  let v70 : BitVec 32 := Scalar.addi v68 v69
  v70.toNat
def k0_dev9 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v77 : BitVec 32 := Scalar.muli v2 c2_i32_59
  let v78 : BitVec 32 := Scalar.addi c0_i32_60 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v79 : BitVec 32 := Scalar.muli v6 c1_i32_61
  let v80 : BitVec 32 := Scalar.addi v78 v79
  v80.toNat
def k0_dev10 (d0 : Dev nD) : Nat :=
  let c0_i32_67 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_66 : BitVec 32 := 2#32
  let v87 : BitVec 32 := Scalar.muli v7 c2_i32_66
  let v88 : BitVec 32 := Scalar.addi c0_i32_67 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v89 : BitVec 32 := Scalar.muli v5 c1_i32_68
  let v90 : BitVec 32 := Scalar.addi v88 v89
  v90.toNat
def k0_dev11 (d0 : Dev nD) : Nat :=
  let c0_i32_88 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_87 : BitVec 32 := 2#32
  let v110 : BitVec 32 := Scalar.muli v7 c2_i32_87
  let v111 : BitVec 32 := Scalar.addi c0_i32_88 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v112 : BitVec 32 := Scalar.muli v5 c1_i32_89
  let v113 : BitVec 32 := Scalar.addi v111 v112
  v113.toNat
def k0_dev12 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v133 : BitVec 32 := Scalar.muli v2 c2_i32_109
  let v134 : BitVec 32 := Scalar.addi c0_i32_110 v133
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v135 : BitVec 32 := Scalar.muli v6 c1_i32_111
  let v136 : BitVec 32 := Scalar.addi v134 v135
  v136.toNat
def k0_dev13 (d0 : Dev nD) : Nat :=
  let c0_i32_132 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_131 : BitVec 32 := 2#32
  let v156 : BitVec 32 := Scalar.muli v7 c2_i32_131
  let v157 : BitVec 32 := Scalar.addi c0_i32_132 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v158 : BitVec 32 := Scalar.muli v5 c1_i32_133
  let v159 : BitVec 32 := Scalar.addi v157 v158
  v159.toNat
def k0_dev14 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v179 : BitVec 32 := Scalar.muli v2 c2_i32_153
  let v180 : BitVec 32 := Scalar.addi c0_i32_154 v179
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_155 : BitVec 32 := 1#32
  let v181 : BitVec 32 := Scalar.muli v6 c1_i32_155
  let v182 : BitVec 32 := Scalar.addi v180 v181
  v182.toNat
def k0_dev15 (d0 : Dev nD) : Nat :=
  let c0_i32_176 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_175 : BitVec 32 := 2#32
  let v202 : BitVec 32 := Scalar.muli v7 c2_i32_175
  let v203 : BitVec 32 := Scalar.addi c0_i32_176 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_177 : BitVec 32 := 1#32
  let v204 : BitVec 32 := Scalar.muli v5 c1_i32_177
  let v205 : BitVec 32 := Scalar.addi v203 v204
  v205.toNat
def k0_dev16 (d0 : Dev nD) : Nat :=
  let c0_i32_198 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_197 : BitVec 32 := 2#32
  let v225 : BitVec 32 := Scalar.muli v2 c2_i32_197
  let v226 : BitVec 32 := Scalar.addi c0_i32_198 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_199 : BitVec 32 := 1#32
  let v227 : BitVec 32 := Scalar.muli v6 c1_i32_199
  let v228 : BitVec 32 := Scalar.addi v226 v227
  v228.toNat
def k0_dev17 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v248 : BitVec 32 := Scalar.muli v7 c2_i32_219
  let v249 : BitVec 32 := Scalar.addi c0_i32_220 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v250 : BitVec 32 := Scalar.muli v5 c1_i32_221
  let v251 : BitVec 32 := Scalar.addi v249 v250
  v251.toNat
def k0_dev18 (d0 : Dev nD) : Nat :=
  let c0_i32_242 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_241 : BitVec 32 := 2#32
  let v271 : BitVec 32 := Scalar.muli v2 c2_i32_241
  let v272 : BitVec 32 := Scalar.addi c0_i32_242 v271
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_243 : BitVec 32 := 1#32
  let v273 : BitVec 32 := Scalar.muli v6 c1_i32_243
  let v274 : BitVec 32 := Scalar.addi v272 v273
  v274.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x256x256 : Shape := ⟨4, ![2, 2, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S2x2x256x256, .f32⟩
  | .hbm, ⟨1, _⟩ => ⟨S_, .f32⟩
  | .hbm, ⟨2, _⟩ => ⟨S256x256, .f32⟩
  | _, _ => ⟨S2x2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
  The kernel's body written as a program over a list of chunks, and the proof that the printed body is that program.

  The body works on eight chunks of 32 rows, in the order 0, 4, 1, 5, 2, 6, 3, 7. Chunk `i` first goes to one neighbour
  of the device (the y neighbour for `i < 4`, the x neighbour otherwise) and the sum then goes to the other one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Butterfly

open Cert.KernelIdeal Cert.KernelIdeal.Gen
open Idealize.ShloMosaic Idealize.ShloMosaic.TcCoe
open Idealize.SL.Sem

variable {F : FTy → Type} [FloatOps F]

/-! ## Chunks, semaphores, devices -/

/-- The device's block of the input, staged on chip. -/
abbrev xM : Memref sig .tc .vmem S256x256 .f32 := Memref.whole cc0_stg0_0
/-- The result's staging buffer. -/
abbrev oM : Memref sig .tc .vmem S256x256 .f32 := Memref.whole cc0_stg1_0
/-- Where the first exchange lands. -/
abbrev r1M : Memref sig .tc .vmem S256x256 .f32 := Memref.whole cc0_scratch0
/-- Where the second exchange lands. -/
abbrev r2M : Memref sig .tc .vmem S256x256 .f32 := Memref.whole cc0_scratch1

/-- Rows `32 i … 32 i + 31` lie inside the array. -/
theorem rows_inb (i : Fin 8) : ∀ a, (![32 * i.val, 0] : Fin 2 → ℕ) a + S32x256.size a ≤ S256x256.size a := by
  revert i; decide

/-- Rows `32 i … 32 i + 31` of the array. -/
abbrev rows (i : Fin 8) : Rect S256x256 := Rect.unit (s := S256x256) ![32 * i.val, 0] S32x256.size (rows_inb i)

/-- Chunk `i` of a 256 by 256 buffer. -/
abbrev chunk (m : Memref sig .tc .vmem S256x256 .f32) (i : Fin 8) : Memref sig .tc .vmem S32x256 .f32 :=
  m.slice (rows i) (fun _ => rfl)

/-- The send semaphore of chunk `i` in exchange `p`. -/
def sendS (p : Bool) (i : Fin 8) : DmaSem sig := ⟨(if p then 10 else 2) + i.val, by revert p i; decide⟩
/-- The receive semaphore of chunk `i` in exchange `p`. -/
def recvS (p : Bool) (i : Fin 8) : DmaSem sig := ⟨(if p then 26 else 18) + i.val, by revert p i; decide⟩
/-- The runtime's barrier semaphore. -/
abbrev barS : Sem sig := (SemArray.scalar (sig.barrier 0 rfl) : Sems sig S_).sem

/-- The order in which the body visits the chunks. -/
abbrev order : List (Fin 8) := [0, 4, 1, 5, 2, 6, 3, 7]

/-- The device the first exchange of chunk `i` is addressed to, as printed. -/
def dev1 (d : Dev nD) : Fin 8 → Dev nD := fun
  | 0 => ⟨k0_dev3 d, k0_dev3_lt d⟩ | 4 => ⟨k0_dev4 d, k0_dev4_lt d⟩ | 1 => ⟨k0_dev5 d, k0_dev5_lt d⟩ | 5 => ⟨k0_dev6 d, k0_dev6_lt d⟩
  | 2 => ⟨k0_dev7 d, k0_dev7_lt d⟩ | 6 => ⟨k0_dev8 d, k0_dev8_lt d⟩ | 3 => ⟨k0_dev9 d, k0_dev9_lt d⟩ | 7 => ⟨k0_dev10 d, k0_dev10_lt d⟩
/-- The device the second exchange of chunk `i` is addressed to, as printed. -/
def dev2 (d : Dev nD) : Fin 8 → Dev nD := fun
  | 0 => ⟨k0_dev11 d, k0_dev11_lt d⟩ | 4 => ⟨k0_dev12 d, k0_dev12_lt d⟩ | 1 => ⟨k0_dev13 d, k0_dev13_lt d⟩ | 5 => ⟨k0_dev14 d, k0_dev14_lt d⟩
  | 2 => ⟨k0_dev15 d, k0_dev15_lt d⟩ | 6 => ⟨k0_dev16 d, k0_dev16_lt d⟩ | 3 => ⟨k0_dev17 d, k0_dev17_lt d⟩ | 7 => ⟨k0_dev18 d, k0_dev18_lt d⟩

/-! ## The program -/

/-- A program of the body. -/
abbrev BodyProg (F : FTy → Type) : Type 1 := Prog (TpuEff nD τ sig (Elt F) Λ₀ .tc) PUnit

/-- Copy a chunk to a chunk of device `d`. -/
def copyTo (d : Dev nD) (src dst : Memref sig .tc .vmem S32x256 .f32) (s r : DmaSem sig) (hsc : dst.view.ref.isScScratch = false)
    (k : BodyProg F) : BodyProg F :=
  Prog.op (.enqueueDma src (.remote (Dev.tc d) dst (.dma s) hsc) (.dma r) (View.wordExact_bits rfl) (View.wordExact_bits rfl) ⟨⟨rfl, Or.inl rfl⟩, trivial⟩)
    fun _ => k

/-- Wait for one chunk on a semaphore. -/
def waitOn (s : DmaSem sig) (a b : Memref sig .tc .vmem S32x256 .f32) (k : BodyProg F) : BodyProg F :=
  Prog.op (.waitDma2 s a b (View.wordExact_bits rfl) (View.wordExact_bits rfl)) fun _ => k

/-- Add chunk `i` of `b` to chunk `i` of `a`, into chunk `i` of the result buffer, whose old value is read and dropped. -/
def addInto (a b : Memref sig .tc .vmem S256x256 .f32) (i : Fin 8) (k : BodyProg F) : BodyProg F :=
  Prog.op (.load a (rows i).toLoadRect (View.loadsAt_vmem h_S32x256)) fun u =>
  Prog.op (.load b (rows i).toLoadRect (View.loadsAt_vmem h_S32x256)) fun v =>
  Prog.op (.load oM (rows i).toLoadRect (View.loadsAt_vmem h_S32x256)) fun _ =>
  Prog.op (.store oM (rows i) (k0_pay1 u v) Finset.univ (View.stores_vmem_bits_univ h_S32x256 rfl) (.inl rfl)) fun _ => k

/-- First exchange: send chunk `i` of the input. -/
def send1 (d : Dev nD) (i : Fin 8) (k : BodyProg F) : BodyProg F :=
  copyTo (dev1 d i) (chunk xM i) (chunk r1M i) (sendS false i) (recvS false i) rfl k
/-- Second exchange: once chunk `i` of the first neighbour is here, add it and send the sum to the other neighbour. -/
def send2 (d : Dev nD) (i : Fin 8) (k : BodyProg F) : BodyProg F :=
  waitOn (recvS false i) (chunk xM i) (chunk r1M i) <| addInto xM r1M i <|
    copyTo (dev2 d i) (chunk oM i) (chunk r2M i) (sendS true i) (recvS true i) rfl k
/-- Once the second copies of chunk `i` are done, add what arrived. -/
def finish (i : Fin 8) (k : BodyProg F) : BodyProg F :=
  waitOn (sendS true i) (chunk r2M i) (chunk oM i) <| waitOn (recvS true i) (chunk oM i) (chunk r2M i) <| addInto oM r2M i k
/-- The first copy of chunk `i` is done. -/
def drain (i : Fin 8) (k : BodyProg F) : BodyProg F :=
  waitOn (sendS false i) (chunk r1M i) (chunk xM i) k

/-- The body: meet both neighbours at the barrier, then four passes over the chunks. -/
def body : BodyProg F :=
  .op .deviceId fun d =>
  Prog.op (.semSignal (Dev.tc (⟨k0_dev1 d, k0_dev1_lt d⟩ : Dev nD)) barS 1) fun _ =>
  Prog.op (.semSignal (Dev.tc (⟨k0_dev2 d, k0_dev2_lt d⟩ : Dev nD)) barS 1) fun _ =>
  Prog.op (.semWait barS 2) fun _ =>
  order.foldr (send1 d) <| order.foldr (send2 d) <| order.foldr finish <| order.foldr drain <| .ret ⟨⟩

set_option maxRecDepth 100000 in
/-- The printed body is `body`. -/
theorem body_eq : cc0_body (F := F) xM (Memref.isWhole_whole _) oM (Memref.isWhole_whole _) r1M (Memref.isWhole_whole _) r2M (Memref.isWhole_whole _)
    cc0_scratch2 cc0_scratch3 = body := rfl

end Cert.Butterfly

end
-- ==== Proof.Protocol.lean ====
/-
  The protocol of the four devices, semaphore by semaphore.

  Devices form a 2 by 2 mesh. Each has a y neighbour (`nb false`) and an x neighbour (`nb true`). Chunk `i` of the first
  exchange travels to the y neighbour for `i < 4` and to the x neighbour otherwise; in the second exchange the roles are
  swapped. Both neighbour maps are their own inverses, so a chunk sent to a neighbour meets the same chunk coming back.

  * Barrier semaphore of `c`: each neighbour of `c` raises it by one, and `c` waits for two. The neighbour's unit carries
    that neighbour's landing chunks which `c` will write, at any contents, and that their receive semaphores are at
    their start.
  * Receive semaphore `(p, i)` of `c`: one copy of one chunk. The landing chunk comes with it. In the first exchange it
    holds the input of the neighbour; in the second one the sum of two inputs the other neighbour has formed.
  * Send semaphore `(p, i)` of `c`: the same copy seen by the sender. The source comes back as it was: in the first
    exchange half of the right to chunk `i` of the input (the other half lets the body read it meanwhile), in the second
    one chunk `i` of the result buffer, holding the sum of two inputs.
-/
module

public import proofs.«01_k».proof.Proof.Program
public import Idealize.ShloMosaic.Lib.Pipeline.Launch
public import Idealize.ShloMosaic.Lib.Pipeline.Kit
public import Idealize.ShloMosaic.Lib.Pipeline.BigSepL
public import Idealize.ShloMosaic.Lib.Pipeline.RegionTalk
public import Idealize.ShloMosaic.Lib.Rounds
public import Idealize.ShloMosaic.Lib.Tactic

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: positions and duties, duties named by a Boolean. -/
abbrev UB : Type := URounds (GSem nD τ sig) Bool
/-- That of the pipeline beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

/-- The y neighbour (`false`) and the x neighbour (`true`) on the 2 by 2 mesh. -/
def nb (b : Bool) (c : Dev nD) : Dev nD :=
  if b then ⟨(c.val + 2) % 4, Nat.mod_lt _ (by decide)⟩ else ⟨2 * (c.val / 2) + (1 - c.val % 2), by revert c; decide⟩

theorem nb_nb (b : Bool) (c : Dev nD) : nb b (nb b c) = c := by revert b c; decide

/-- A neighbour map as a permutation of the devices. -/
def nbE (b : Bool) : Dev nD ≃ Dev nD := ⟨nb b, nb b, nb_nb b, nb_nb b⟩

/-- Which neighbour chunk `i` goes to in exchange `p`. -/
def dir (p : Bool) (i : Fin 8) : Bool := xor (decide (4 ≤ i.val)) p

/-- The device `c` exchanges chunk `i` with in exchange `p`. -/
abbrev peer (p : Bool) (i : Fin 8) (c : Dev nD) : Dev nD := nb (dir p i) c

theorem bar1_eq (c : Dev nD) : (⟨k0_dev1 c, k0_dev1_lt c⟩ : Dev nD) = nb false c := by revert c; decide +kernel
theorem bar2_eq (c : Dev nD) : (⟨k0_dev2 c, k0_dev2_lt c⟩ : Dev nD) = nb true c := by revert c; decide +kernel
theorem dev1_eq (c : Dev nD) (i : Fin 8) : dev1 c i = peer false i c := by revert c i; decide +kernel
theorem dev2_eq (c : Dev nD) (i : Fin 8) : dev2 c i = peer true i c := by revert c i; decide +kernel

/-! ## Semaphores -/

/-- Names of the copies' semaphores: send (`false`) or receive (`true`), exchange, chunk. -/
abbrev XK : Type := Bool × Bool × Fin 8

/-- The semaphore a name stands for. -/
def xsem (k : XK) : DmaSem sig := if k.1 then recvS k.2.1 k.2.2 else sendS k.2.1 k.2.2

/-- The name a semaphore has. -/
def nameOf (q : DmaSem sig) : XK := (decide (18 ≤ q.val), decide (8 ≤ (q.val - 2) % 16), ⟨(q.val - 2) % 8, Nat.mod_lt _ (by decide)⟩)

theorem nameOf_xsem (k : XK) : nameOf (xsem k) = k := by revert k; decide
theorem xsem_ge (k : XK) : 2 ≤ (xsem k).val := by revert k; decide
theorem xsem_inj : Function.Injective xsem := fun a b h => by rw [← nameOf_xsem a, h, nameOf_xsem]

abbrev barCell (c : Dev nD) : GSem nD τ sig := ((c : Thread nD τ), .reg barS)
abbrev xcell (c : Dev nD) (k : XK) : GSem nD τ sig := ((c : Thread nD τ), .dma (xsem k))
abbrev sendCell (p : Bool) (i : Fin 8) (c : Dev nD) : GSem nD τ sig := xcell c (false, p, i)
abbrev recvCell (p : Bool) (i : Fin 8) (c : Dev nD) : GSem nD τ sig := xcell c (true, p, i)

/-- What the copy of one chunk counts for. -/
abbrev N : ℕ := (chunk r1M 0).view.dmaCredit
theorem N_pos : 0 < N := View.dmaCredit_pos _ (by decide)

/-! ## Contents -/

/-- A 256 by 256 array. -/
abbrev Arr (F : FTy → Type) : Type := S256x256.Idx → Elt F .f32

/-- The sum of two arrays, entry by entry. -/
def plus (a b : Arr F) : Arr F := addf (s := S256x256) a b

variable (X : Dev nD → Arr F)

/-- The two inputs that meet in chunk `i` after the first exchange, added. -/
def part (i : Fin 8) (c : Dev nD) : Arr F := plus (X c) (X (peer false i c))
/-- The four inputs added, in the order chunk `i` meets them. -/
def full (i : Fin 8) (c : Dev nD) : Arr F := plus (part X i c) (part X i (peer true i c))

/-- Where exchange `p` lands. -/
abbrev landM (p : Bool) : Memref sig .tc .vmem S256x256 .f32 := if p then r2M else r1M

/-- Chunk `i` of a buffer of device `c` is held with share `q`, the buffer's contents there being `f`'s. -/
def held (m : Memref sig .tc .vmem S256x256 .f32) (c : Dev nD) (q : PosShare TreeShare) (i : Fin 8)
    (f : Buf (Elt F) ((chunk m i).view.loc (c : Thread nD τ))) : sProp 𝕄 :=
  (chunk m i).view.loc (c : Thread nD τ) ↦[(chunk m i).view.set]{q} f

/-- The two halves of the right to a buffer: the one lent to a copy and the one kept for reading. -/
abbrev lentShare : PosShare TreeShare := fullShare.left
abbrev keptShare : PosShare TreeShare := fullShare.right

omit [FloatOps F] in
instance held_storable (m : Memref sig .tc .vmem S256x256 .f32) (c : Dev nD) (q) (i) (f) :
    BI.Storable (upEmb : UEmb _ 𝕄) (held (F := F) m c q i f) := by unfold held; infer_instance

/-! ## The schedule -/

/-- A landing chunk of device `c`, at any contents, its receive semaphore at its start. -/
def slot (p : Bool) (i : Fin 8) (c : Dev nD) : sProp 𝕄 :=
  iprop((∃ f, held (landM p) c fullShare i f) ∗ reached ER (recvCell p i c) 0)

/-- What the unit of `c`'s neighbour `nb d c` on `c`'s barrier carries: the landing chunks `c` writes there. -/
def barPay (c : Dev nD) (d : Bool) : sProp 𝕄 := bigSep Finset.univ fun i : Fin 8 => slot (dir d i) i (nb d c)

/-- What a copy's completion carries. -/
def xferPay (c : Dev nD) : XK → sProp 𝕄 := fun
  | (false, false, i) => held xM c lentShare i (X c)
  | (false, true, i) => held oM c fullShare i (part X i c)
  | (true, false, i) => held r1M c fullShare i (X (peer false i c))
  | (true, true, i) => held r2M c fullShare i (part X i (peer true i c))

omit [FloatOps F] in
instance slot_storable (p : Bool) (i : Fin 8) (c : Dev nD) : BI.Storable (upEmb : UEmb _ 𝕄) (slot (F := F) p i c) := by
  unfold slot; infer_instance
omit [FloatOps F] in
instance barPay_storable (c : Dev nD) (d : Bool) : BI.Storable (upEmb : UEmb _ 𝕄) (barPay (F := F) c d) := by
  unfold barPay; infer_instance
instance xferPay_storable (c : Dev nD) (k : XK) : BI.Storable (upEmb : UEmb _ 𝕄) (xferPay (F := F) X c k) := by
  obtain ⟨a, p, i⟩ := k
  cases a <;> cases p <;> (unfold xferPay; infer_instance)

/-- Everything happens once, in round 0: a barrier expects a unit of each neighbour, a copy's semaphore one chunk. -/
def sched : Rounds.Schedule (GSem nD τ sig) Bool 𝕄 where
  duties g r := if r = 0 then (match g.2 with | .reg _ => Finset.univ | .dma q => if 2 ≤ q.val then {false} else ∅) else ∅
  unitless _ := False
  amount g _ _ := match g.2 with | .reg _ => 1 | .dma _ => N
  payload g _ d := match g.2 with | .reg _ => barPay g.1.1 d | .dma q => xferPay X g.1.1 (nameOf q)
  amount_pos g _ _ _ := by
    obtain ⟨t, s | q⟩ := g
    · exact Nat.one_pos
    · exact N_pos

instance sched_payload_storable (g : GSem nD τ sig) (r : ℕ) (d : Bool) :
    BI.Storable (upEmb : UEmb _ 𝕄) ((sched (F := F) X).payload g r d) := by
  obtain ⟨t, s | q⟩ := g
  · exact barPay_storable t.1 d
  · exact xferPay_storable X t.1 (nameOf q)

section Sched
variable (c : Dev nD) (k : XK)

theorem duties_bar : (sched X).duties (barCell c) 0 = Finset.univ := rfl
theorem duties_x : (sched X).duties (xcell c k) 0 = {false} := by
  show (if 0 = 0 then (if 2 ≤ (xsem k).val then {false} else ∅) else ∅) = _
  rw [if_pos rfl, if_pos (xsem_ge k)]
theorem duties_later (g : GSem nD τ sig) : ∀ r, 1 ≤ r → (sched X).duties g r = ∅ :=
  fun r hr => if_neg (by omega)
theorem amount_bar (d : Bool) : (sched X).amount (barCell c) 0 d = 1 := rfl
theorem amount_x (d : Bool) : (sched X).amount (xcell c k) 0 d = N := rfl
theorem expect_bar : (sched X).expect (barCell c) 0 = 2 := by
  unfold Schedule.expect Schedule.amountOf
  rw [duties_bar, Finset.sum_congr rfl fun d _ => amount_bar X c d, Finset.sum_const, Finset.card_univ, Fintype.card_bool, smul_eq_mul]
theorem expect_x : (sched X).expect (xcell c k) 0 = N := by
  unfold Schedule.expect Schedule.amountOf; rw [duties_x, Finset.sum_singleton, amount_x]
theorem payload_bar (d : Bool) : (sched X).payload (barCell c) 0 d = barPay c d := rfl
theorem payload_x (d : Bool) : (sched X).payload (xcell c k) 0 d = xferPay X c k := by
  show xferPay X c (nameOf (xsem k)) = _
  rw [nameOf_xsem]
/-- All a barrier's round hands over. -/
theorem rest_bar : bigSep ((sched X).duties (barCell c) 0 \ ∅) (fun d => (sched X).payload (barCell c) 0 d)
    = iprop(barPay c false ∗ barPay c true) := by
  rw [Finset.sdiff_empty, duties_bar, bigSep_univ_eq_bigSepL [false, true] (by decide) (by decide), bigSepL_cons_cons, bigSepL_singleton]
  rfl
/-- All a copy's round hands over. -/
theorem rest_x : bigSep ((sched X).duties (xcell c k) 0 \ ∅) (fun d => (sched X).payload (xcell c k) 0 d) = xferPay X c k := by
  rw [Finset.sdiff_empty, duties_x, bigSep_singleton, payload_x]

end Sched

/-! ## What each device owes at launch; the levels -/

/-- The copies of exchange `p` device `c` has still to make, for the chunks in the list. -/
def dueTo (p : Bool) (c : Dev nD) (l : List (Fin 8)) : CellTallies nD τ sig Unit :=
  (l.map fun i => tallyAt (recvCell p i (peer p i c)) () N).sum

/-- After the first barrier unit. -/
def O₁ (c : Dev nD) : CellTallies nD τ sig Unit := (dueTo false c order + dueTo true c order) + tallyAt (barCell (nb true c)) () 1
/-- At launch: every copy of both exchanges and a unit to each neighbour's barrier. -/
def O₀ (c : Dev nD) : CellTallies nD τ sig Unit := O₁ c + tallyAt (barCell (nb false c)) () 1

def L (g : GSem nD τ sig) : Finset Unit := if g.1.2 = .tc then {()} else ∅
/-- Barriers at 1, receive semaphores of the first exchange at 2, of the second at 3, all else at 0. -/
def lv (g : GSem nD τ sig) (_ : Unit) : ℕ := match g.2 with
  | .reg _ => 1
  | .dma q => if 26 ≤ q.val then 3 else if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (p : Bool) (i : Fin 8) (c : Dev nD) : lv (recvCell p i c) () = if p then 3 else 2 := by
  show (if 26 ≤ (xsem (true, p, i)).val then 3 else if 18 ≤ (xsem (true, p, i)).val then 2 else 0) = _
  revert p i; decide

/-- What is due for a list of chunks is due at their receive semaphores. -/
theorem dueTo_pos {p : Bool} {c : Dev nD} {l : List (Fin 8)} {g : GSem nD τ sig} {u : Unit} (h : 0 < dueTo p c l g u) :
    ∃ i, g = recvCell p i (peer p i c) := by
  induction l with
  | nil => exact absurd h (Nat.lt_irrefl 0)
  | cons i l ih =>
    unfold dueTo at h ih
    rw [List.map_cons, List.sum_cons, Pi.add_apply, Finsupp.add_apply, tallyAt_apply] at h
    by_cases hg : g = recvCell p i (peer p i c) ∧ u = ()
    · exact ⟨i, hg.1⟩
    · rw [if_neg hg, Nat.zero_add] at h; exact ih h

theorem O₀_pos {c : Dev nD} {g : GSem nD τ sig} {u : Unit} (h : 0 < O₀ c g u) :
    (∃ p i, g = recvCell p i (peer p i c)) ∨ ∃ b, g = barCell (nb b c) := by
  unfold O₀ O₁ at h
  rw [Pi.add_apply, Finsupp.add_apply, Pi.add_apply, Finsupp.add_apply, Pi.add_apply, Finsupp.add_apply, tallyAt_apply, tallyAt_apply] at h
  by_cases h1 : 0 < dueTo false c order g u
  · obtain ⟨i, hi⟩ := dueTo_pos h1; exact .inl ⟨_, i, hi⟩
  by_cases h2 : 0 < dueTo true c order g u
  · obtain ⟨i, hi⟩ := dueTo_pos h2; exact .inl ⟨_, i, hi⟩
  by_cases h3 : g = barCell (nb true c) ∧ u = ()
  · exact .inr ⟨_, h3.1⟩
  by_cases h4 : g = barCell (nb false c) ∧ u = ()
  · exact .inr ⟨_, h4.1⟩
  rw [if_neg h3, if_neg h4] at h
  omega

/-- A wait is allowed below everything still due. -/
theorem mayWait_of (c : Dev nD) (sm : SemLoc sig) (n : ℕ) (hn : lv ((c : Thread nD τ), sm) () ≤ n) (O : CellTallies nD τ sig Unit)
    (hO : ∀ g u, 0 < O g u → ∃ p i d, g = recvCell p i d ∧ n < if p then 3 else 2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨p, i, d, rfl, -⟩ := hO g u hg; rw [L_tc]; exact Finset.mem_singleton_self _)
    (fun p hp => by rw [Finset.mem_singleton.mp hp]; exact hn)
    (fun g u hg => by obtain ⟨p, i, d, rfl, h⟩ := hO g u hg; rw [lv_recv]; exact h)

/-- At its barrier a device owes copies only. -/
theorem mayWait_bar (c : Dev nD) :
    (levAts L lv : sProp 𝕄) ⊢ MayWait (c : Thread nD τ) (.reg barS) () (dueTo false c order + dueTo true c order) :=
  mayWait_of c _ 1 le_rfl _ fun g u h => by
    rw [Pi.add_apply, Finsupp.add_apply] at h
    rcases Nat.add_pos_iff_pos_or_pos.mp h with h | h
    · obtain ⟨i, rfl⟩ := dueTo_pos h; exact ⟨_, _, _, rfl, by decide⟩
    · obtain ⟨i, rfl⟩ := dueTo_pos h; exact ⟨_, _, _, rfl, by decide⟩

/-- At a receive semaphore of the first exchange it owes copies of the second only. -/
theorem mayWait_recv (c : Dev nD) (i : Fin 8) (l : List (Fin 8)) :
    (levAts L lv : sProp 𝕄) ⊢ MayWait (c : Thread nD τ) (.dma (xsem (true, false, i))) () (dueTo true c l) :=
  mayWait_of c _ 2 (le_of_eq (lv_recv false i c)) _ fun g u h => by
    obtain ⟨i, rfl⟩ := dueTo_pos h; exact ⟨_, _, _, rfl, by decide⟩

/-- The kernels call no function, so no variant of one is named. -/
abbrev 𝒱₀ : Variants := Variants.none

end Cert.Butterfly

end
-- ==== Proof.Contents.lean ====
/-
  Contents, chunk by chunk: what a load, a store and a copy of one chunk do to it, and a buffer cut into its chunks and
  put together again.
-/
module

public import proofs.«01_k».proof.Proof.Protocol
public import Idealize.ShloMosaic.Lib.Pipeline.Value

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which chunk an entry lies in -/

/-- The chunk an entry of the array lies in. -/
def sel (j : S256x256.Idx) : Fin 8 := ⟨(j 0).val / 32, by have := (j 0).isLt; change _ < 256 at this; omega⟩

theorem mem_rows (i : Fin 8) (j : S256x256.Idx) : j ∈ (rows i).set ↔ sel j = i := by
  rw [Rect.mem_set_unit]
  have h0 := (j 0).isLt
  have h1 := (j 1).isLt
  change _ < 256 at h0
  change _ < 256 at h1
  have hi := i.isLt
  constructor
  · intro h
    have := h 0
    change 32 * i.val ≤ (j 0).val ∧ (j 0).val < 32 * i.val + 32 at this
    exact Fin.ext (by show (j 0).val / 32 = i.val; omega)
  · intro h a
    have h' : (j 0).val / 32 = i.val := congrArg Fin.val h
    fin_cases a
    · show 32 * i.val ≤ (j 0).val ∧ (j 0).val < 32 * i.val + 32; omega
    · show 0 ≤ (j 1).val ∧ (j 1).val < 0 + 256; omega

theorem set_x (i : Fin 8) : (chunk xM i).view.set = (rows i).set := View.set_slice_whole cc0_stg0_0 (rows i)
theorem set_o (i : Fin 8) : (chunk oM i).view.set = (rows i).set := View.set_slice_whole cc0_stg1_0 (rows i)
theorem set_r1 (i : Fin 8) : (chunk r1M i).view.set = (rows i).set := View.set_slice_whole cc0_scratch0 (rows i)
theorem set_r2 (i : Fin 8) : (chunk r2M i).view.set = (rows i).set := View.set_slice_whole cc0_scratch1 (rows i)

/-! ## A buffer as its chunks -/

/-- The array that agrees with `f i` on chunk `i`. -/
def glue (f : Fin 8 → Arr F) : Arr F := fun j => f (sel j) j

omit [FloatOps F] in
/-- Elements sorted into disjoint sets that cover all of them: holding all at contents that agree with `f i` on set `i` is
    holding each set at `f i`. -/
theorem cut {ℓ : Loc nD τ sig} {q : PosShare TreeShare} (s : Idx ℓ → Fin 8) (K : Fin 8 → Finset (Idx ℓ)) (hK : ∀ i j, j ∈ K i ↔ s j = i)
    (f : Fin 8 → Buf (Elt F) ℓ) :
    (ℓ ↦{q} (fun j => f (s j) j) : sProp 𝕄) = bigSepL order fun i => ℓ ↦[K i]{q} f i := by
  have hu : (Finset.univ : Finset (Idx ℓ)) = Finset.univ.biUnion K := by
    ext j; simp only [Finset.mem_univ, Finset.mem_biUnion, true_and, true_iff]; exact ⟨s j, (hK _ _).2 rfl⟩
  rw [← bigSep_univ_eq_bigSepL order (by decide) (by decide)]
  show (ℓ ↦[Finset.univ]{q} _ : sProp 𝕄) = _
  rw [hu, pointsTo_biUnion Finset.univ K fun a _ b _ hab => Finset.disjoint_left.2 fun j ha hb => hab (((hK a j).1 ha).symm.trans ((hK b j).1 hb))]
  refine bigSep_congr fun i _ => ?_
  exact pointsTo_congr fun j hj => by rw [(hK i j).1 hj]

omit [FloatOps F] in
theorem cut_x (c : Dev nD) (q) (f : Fin 8 → Arr F) :
    (((c : Thread nD τ).loc cc0_stg0_0) ↦{q} (glue f : Buf (Elt F) ((c : Thread nD τ).loc cc0_stg0_0)) : sProp 𝕄) = bigSepL order fun i => held xM c q i (f i) :=
  cut (ℓ := (c : Thread nD τ).loc cc0_stg0_0) sel (fun i => (chunk xM i).view.set) (fun i j => by rw [set_x]; exact mem_rows i j) f
omit [FloatOps F] in
theorem cut_o (c : Dev nD) (q) (f : Fin 8 → Arr F) :
    (((c : Thread nD τ).loc cc0_stg1_0) ↦{q} (glue f : Buf (Elt F) ((c : Thread nD τ).loc cc0_stg1_0)) : sProp 𝕄) = bigSepL order fun i => held oM c q i (f i) :=
  cut (ℓ := (c : Thread nD τ).loc cc0_stg1_0) sel (fun i => (chunk oM i).view.set) (fun i j => by rw [set_o]; exact mem_rows i j) f
omit [FloatOps F] in
theorem cut_r1 (c : Dev nD) (q) (f : Fin 8 → Arr F) :
    (((c : Thread nD τ).loc cc0_scratch0) ↦{q} (glue f : Buf (Elt F) ((c : Thread nD τ).loc cc0_scratch0)) : sProp 𝕄) = bigSepL order fun i => held r1M c q i (f i) :=
  cut (ℓ := (c : Thread nD τ).loc cc0_scratch0) sel (fun i => (chunk r1M i).view.set) (fun i j => by rw [set_r1]; exact mem_rows i j) f
omit [FloatOps F] in
theorem cut_r2 (c : Dev nD) (q) (f : Fin 8 → Arr F) :
    (((c : Thread nD τ).loc cc0_scratch1) ↦{q} (glue f : Buf (Elt F) ((c : Thread nD τ).loc cc0_scratch1)) : sProp 𝕄) = bigSepL order fun i => held r2M c q i (f i) :=
  cut (ℓ := (c : Thread nD τ).loc cc0_scratch1) sel (fun i => (chunk r2M i).view.set) (fun i j => by rw [set_r2]; exact mem_rows i j) f

omit [FloatOps F] in
/-- A chunk held outright is held in two halves. -/
theorem halve (c : Dev nD) (i : Fin 8) (f : Arr F) :
    (held xM c fullShare i f : sProp 𝕄) ⊣⊢ iprop(held xM c lentShare i f ∗ held xM c keptShare i f) := by
  unfold held
  exact pointsTo_share (PosShare.mem_left_op_right fullShare)

/-! ## Writing a chunk -/

/-- A chunk written with what a copy reads from the same chunk of another buffer holds that buffer's contents. -/
theorem copied_x (c : Dev nD) (i : Fin 8) (fd : Arr F) (fs : Arr F) :
    (((chunk r1M i).view.loc (c : Thread nD τ)) ↦[(chunk r1M i).view.set]{fullShare}
        ((chunk r1M i).view.write (Elt F) fd ((chunk xM i).view.read (Elt F) fs) Finset.univ) : sProp 𝕄) = held r1M c fullShare i fs := by
  unfold held
  refine pointsTo_congr fun j hj => ?_
  obtain ⟨x, -, rfl⟩ := Finset.mem_map.1 hj
  rw [View.write_emb_of_mem _ _ (Finset.mem_univ x)]
  rfl
theorem copied_o (c : Dev nD) (i : Fin 8) (fd : Arr F) (fs : Arr F) :
    (((chunk r2M i).view.loc (c : Thread nD τ)) ↦[(chunk r2M i).view.set]{fullShare}
        ((chunk r2M i).view.write (Elt F) fd ((chunk oM i).view.read (Elt F) fs) Finset.univ) : sProp 𝕄) = held r2M c fullShare i fs := by
  unfold held
  refine pointsTo_congr fun j hj => ?_
  obtain ⟨x, -, rfl⟩ := Finset.mem_map.1 hj
  rw [View.write_emb_of_mem _ _ (Finset.mem_univ x)]
  rfl

/-- The payload of every store of the body is the sum of the two values loaded. -/
theorem pay_eq (u v : Vec F S32x256 .f32) : k0_pay1 u v = addf u v := by
  unfold k0_pay1
  exact congrArg (addf · v) (shapeCast_self u _)

/-- Chunk `i` of the result buffer, stored with the sum of chunks `i` of the input and of what landed. -/
theorem stored_x (c : Dev nD) (i : Fin 8) (f a b : Arr F) :
    (((chunk oM i).view.loc (c : Thread nD τ)) ↦[(chunk oM i).view.set]{fullShare}
        ((oM.access (rows i)).write (Elt F) f (k0_pay1 ((xM.access (rows i)).read (Elt F) a) ((r1M.access (rows i)).read (Elt F) b)) Finset.univ) : sProp 𝕄)
      = held oM c fullShare i (plus a b) := by
  unfold held
  refine pointsTo_congr fun j hj => ?_
  obtain ⟨x, -, rfl⟩ := Finset.mem_map.1 hj
  rw [pay_eq]
  exact View.write_emb_of_mem _ _ (Finset.mem_univ x)
/-- The same with the result buffer itself and what landed second. -/
theorem stored_o (c : Dev nD) (i : Fin 8) (f a b : Arr F) :
    (((chunk oM i).view.loc (c : Thread nD τ)) ↦[(chunk oM i).view.set]{fullShare}
        ((oM.access (rows i)).write (Elt F) f (k0_pay1 ((oM.access (rows i)).read (Elt F) a) ((r2M.access (rows i)).read (Elt F) b)) Finset.univ) : sProp 𝕄)
      = held oM c fullShare i (plus a b) := by
  unfold held
  refine pointsTo_congr fun j hj => ?_
  obtain ⟨x, -, rfl⟩ := Finset.mem_map.1 hj
  rw [pay_eq]
  exact View.write_emb_of_mem _ _ (Finset.mem_univ x)

end Cert.Butterfly

end
-- ==== Proof.Steps.lean ====
/-
  The body's steps on one chunk, and the passage from a step to a pass over a list of chunks.
-/
module

public import proofs.«01_k».proof.Proof.Contents

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What it takes to run a program of the body on device `c` and end in `Q`. -/
abbrev run (c : Dev nD) (k : BodyProg F) (Q : PUnit → sProp 𝕄) : sProp 𝕄 :=
  wp frame (wpE (defs₀ (F := F)) 𝒱₀ (c : Thread nD τ) none) Set.univ k Q

/-- A pass over a list: if each step turns `A i` into `B i` and the state before `i :: l` into the state before `l`, the pass
    turns all `A i` into all `B i` and the state before the list into the state before the empty one. -/
theorem run_pass (c : Dev nD) (Q : PUnit → sProp 𝕄) (f : Fin 8 → BodyProg F → BodyProg F) (A B : Fin 8 → sProp 𝕄) (S : List (Fin 8) → sProp 𝕄)
    (step : ∀ i l k, iprop(A i ∗ S (i :: l)) ⊢ iprop(((B i ∗ S l) -∗ run c k Q) -∗ run c (f i k) Q)) (l : List (Fin 8)) (k : BodyProg F) :
    iprop(bigSepL l A ∗ S l) ⊢ iprop(((bigSepL l B ∗ S []) -∗ run c k Q) -∗ run c (l.foldr f k) Q) := by
  induction l with
  | nil =>
    iintro ⟨HA, HS⟩ Hk
    iapply Hk
    isplitl [HA]; · iexact HA
    iexact HS
  | cons i l ih =>
    rw [bigSepL_cons', bigSepL_cons', List.foldr_cons]
    iintro ⟨⟨Hi, HA⟩, HS⟩ Hk
    iapply (step i l _) $$ [Hi HS]
    · isplitl [Hi] <;> iassumption
    iintro ⟨HB, HS⟩
    iapply ih $$ [HA HS]
    · isplitl [HA] <;> iassumption
    iintro ⟨HBl, HS⟩
    iapply Hk
    isplitr [HS]
    · isplitl [HB] <;> iassumption
    iexact HS

variable (X : Dev nD → Arr F)

/-! ## The records every device consults -/

/-- The barriers' cells and the copies' cells. -/
def barEmb : Dev nD ↪ GSem nD τ sig := ⟨fun c => barCell c, fun _ _ h => congrArg (fun g : GSem nD τ sig => g.1.1) h⟩
def xEmb : Dev nD × XK ↪ GSem nD τ sig :=
  ⟨fun ck => xcell ck.1 ck.2, fun _ _ h => Prod.ext (congrArg (fun g : GSem nD τ sig => g.1.1) h)
    (xsem_inj (SemLoc.dma.inj (congrArg Prod.snd h)))⟩
abbrev barCells : Finset (GSem nD τ sig) := Finset.univ.map barEmb
abbrev xCells : Finset (GSem nD τ sig) := Finset.univ.map xEmb

/-- Every cell's invariant under one map of names, and that every barrier is at its start. -/
def records (K : GSem nD τ sig → ℕ) : sProp 𝕄 :=
  iprop((bigSep (barCells ∪ xCells) fun g => cellInv ER (sched X) (K g) g) ∗ bigSep barCells fun g => reached ER g 0)

instance records_persistent (K : GSem nD τ sig → ℕ) : BI.Persistent (records X K) := by unfold records; infer_instance

theorem inv_bar (K : GSem nD τ sig → ℕ) (c : Dev nD) : records X K ⊢ cellInv ER (sched X) (K (barCell c)) (barCell c) := by
  unfold records
  exact sep_elim_left.trans (bigSep_elim (Φ := fun g => cellInv ER (sched X) (K g) g)
    (Finset.mem_union_left _ (Finset.mem_map_of_mem barEmb (Finset.mem_univ c))))
theorem inv_x (K : GSem nD τ sig → ℕ) (c : Dev nD) (k : XK) : records X K ⊢ cellInv ER (sched X) (K (xcell c k)) (xcell c k) := by
  unfold records
  exact sep_elim_left.trans (bigSep_elim (Φ := fun g => cellInv ER (sched X) (K g) g)
    (Finset.mem_union_right _ (Finset.mem_map_of_mem xEmb (Finset.mem_univ (c, k)))))
theorem reached_bar (K : GSem nD τ sig → ℕ) (c : Dev nD) : records X K ⊢ reached ER (barCell c) 0 := by
  unfold records
  exact sep_elim_right.trans (bigSep_elim (Φ := fun g => reached ER g 0) (Finset.mem_map_of_mem barEmb (Finset.mem_univ c)))

/-! ## One copy, one wait, one addition -/

theorem peer_peer (p : Bool) (i : Fin 8) (c : Dev nD) : peer p i (peer p i c) = c := nb_nb _ c

/-- The right to make copy `(p, i)`: its duties at the sender's and at the receiver's semaphore. -/
def duty (p : Bool) (i : Fin 8) (c : Dev nD) : sProp 𝕄 :=
  iprop(dutyTok ER (sendCell p i c) 0 false ∗ reached ER (sendCell p i c) 0 ∗ dutyTok ER (recvCell p i (peer p i c)) 0 false)

variable (K : GSem nD τ sig → ℕ) (c : Dev nD)

/-- A copy of the first exchange. -/
theorem run_copy1 (i : Fin 8) (d : Dev nD) (hd : d = peer false i c) (O : CellTallies nD τ sig Unit) (W : Waits sig Unit) (k : BodyProg F)
    (Q : PUnit → sProp 𝕄) :
    iprop(records X K ∗ held xM c lentShare i (X c) ∗ slot false i (peer false i c) ∗ duty false i c
        ∗ owes (c : Thread nD τ) (tallyAt (recvCell false i (peer false i c)) () N + O) W)
      ⊢ iprop(((cred (tallyAt (sendCell false i c) () N) ∗ owes (c : Thread nD τ) O W) -∗ run c k Q)
          -∗ run c (copyTo d (chunk xM i) (chunk r1M i) (sendS false i) (recvS false i) rfl k) Q) := by
  subst hd
  unfold slot duty
  iintro ⟨#HR, Hx, ⟨⟨%fd, Hland⟩, #Hr2⟩, ⟨Ht1, #Hr1, Ht2⟩, HO⟩ Hk
  unfold held copyTo
  iapply (Rounds.wp_send_pointsTo 𝒱₀ ER (sched X) (c : Thread nD τ) none (c' := (peer false i c : Thread nD τ)) (src := chunk xM i) (dst := chunk r1M i)
      (sS := .dma (xsem (false, false, i))) (sem := .dma (xsem (true, false, i)))
      (κ₁ := K (sendCell false i c)) (κ₂ := K (recvCell false i (peer false i c)))
      (r₁ := 0) (r₂ := 0) (d₁ := false) (d₂ := false) (fs := X c) (fd := fd)
      (by rw [duties_x]; exact Finset.mem_singleton_self _) (by rw [duties_x]; exact Finset.mem_singleton_self _)
      () () N rfl (amount_x X c _ false) (amount_x X _ _ false) O (add_comm _ _) (W := W)
      (by rw [payload_x]; exact BI.Entails.refl _)
      (by rw [payload_x]
          show _ ⊢ held r1M (peer false i c) fullShare i (X (peer false i (peer false i c)))
          rw [peer_peer]
          exact Entails.of_eq (copied_x (peer false i c) i fd (X c)))) $$ [Hx Hland HO Ht1 Ht2]
  · isplitr; · iapply (inv_x X K c (false, false, i)); iexact HR
    isplitr; · iapply (inv_x X K (peer false i c) (true, false, i)); iexact HR
    isplitl [Hx]; · iexact Hx
    isplitl [Hland]; · iexact Hland
    isplitl [HO]; · iexact HO
    isplitl [Ht1]; · iexact Ht1
    isplitr; · iexact Hr1
    isplitl [Ht2]; · iexact Ht2
    iexact Hr2
  iexact Hk

/-- A copy of the second exchange. -/
theorem run_copy2 (i : Fin 8) (d : Dev nD) (hd : d = peer true i c) (O : CellTallies nD τ sig Unit) (W : Waits sig Unit) (k : BodyProg F)
    (Q : PUnit → sProp 𝕄) :
    iprop(records X K ∗ held oM c fullShare i (part X i c) ∗ slot true i (peer true i c) ∗ duty true i c
        ∗ owes (c : Thread nD τ) (tallyAt (recvCell true i (peer true i c)) () N + O) W)
      ⊢ iprop(((cred (tallyAt (sendCell true i c) () N) ∗ owes (c : Thread nD τ) O W) -∗ run c k Q)
          -∗ run c (copyTo d (chunk oM i) (chunk r2M i) (sendS true i) (recvS true i) rfl k) Q) := by
  subst hd
  unfold slot duty
  iintro ⟨#HR, Hx, ⟨⟨%fd, Hland⟩, #Hr2⟩, ⟨Ht1, #Hr1, Ht2⟩, HO⟩ Hk
  unfold held copyTo
  iapply (Rounds.wp_send_pointsTo 𝒱₀ ER (sched X) (c : Thread nD τ) none (c' := (peer true i c : Thread nD τ)) (src := chunk oM i) (dst := chunk r2M i)
      (sS := .dma (xsem (false, true, i))) (sem := .dma (xsem (true, true, i)))
      (κ₁ := K (sendCell true i c)) (κ₂ := K (recvCell true i (peer true i c)))
      (r₁ := 0) (r₂ := 0) (d₁ := false) (d₂ := false) (fs := part X i c) (fd := fd)
      (by rw [duties_x]; exact Finset.mem_singleton_self _) (by rw [duties_x]; exact Finset.mem_singleton_self _)
      () () N rfl (amount_x X c _ false) (amount_x X _ _ false) O (add_comm _ _) (W := W)
      (by rw [payload_x]; exact BI.Entails.refl _)
      (by rw [payload_x]
          show _ ⊢ held r2M (peer true i c) fullShare i (part X i (peer true i (peer true i c)))
          rw [peer_peer]
          exact Entails.of_eq (copied_o (peer true i c) i fd (part X i c)))) $$ [Hx Hland HO Ht1 Ht2]
  · isplitr; · iapply (inv_x X K c (false, true, i)); iexact HR
    isplitr; · iapply (inv_x X K (peer true i c) (true, true, i)); iexact HR
    isplitl [Hx]; · iexact Hx
    isplitl [Hland]; · iexact Hland
    isplitl [HO]; · iexact HO
    isplitl [Ht1]; · iexact Ht1
    isplitr; · iexact Hr1
    isplitl [Ht2]; · iexact Ht2
    iexact Hr2
  iexact Hk

/-- The end of a copy's round, and so what its closing takes. -/
abbrev past (x : XK) (c : Dev nD) : sProp 𝕄 := atPos ER (xcell c x) 1 ∅ 0

/-- A wait for one chunk on the semaphore named `x` brings what its copy carries. -/
theorem run_wait (x : XK) (a b : Memref sig .tc .vmem S32x256 .f32) (hb : b.view.dmaCredit = N) (O : CellTallies nD τ sig Unit) (W : Waits sig Unit)
    (k : BodyProg F) (Q : PUnit → sProp 𝕄) :
    iprop(records X K ∗ cred (tallyAt (xcell c x) () N) ∗ atPos ER (xcell c x) 0 ∅ 0 ∗ MayWait (c : Thread nD τ) (.dma (xsem x)) () O
        ∗ owes (c : Thread nD τ) O W)
      ⊢ iprop(((past x c ∗ xferPay X c x ∗ owes (c : Thread nD τ) O (insert (.dma (xsem x), ()) W)) -∗ run c k Q)
          -∗ run c (waitOn (xsem x) a b k) Q) := by
  iintro ⟨#HR, Hc, Hat, HM, HO⟩ Hk
  unfold waitOn
  iapply (Rounds.wp_wait_rest_token 𝒱₀ ER (sched X) (c : Thread nD τ) none (κ := K (xcell c x))
      (wpE_waitDma2_eq 𝒱₀ (c : Thread nD τ) none Set.univ) (Set.mem_univ _) () (O := O) (W := W) (R := 0) (m := 0) (T := ∅)
      (by rw [Nat.zero_add, expect_x, hb])) $$ [Hc Hat HM HO]
  · isplitr; · iapply (inv_x X K c x); iexact HR
    isplitl [Hc]; · rw [hb]; iexact Hc
    isplitl [HO]; · iexact HO
    isplitl [HM]; · iexact HM
    iexact Hat
  iintro ⟨HO, Hat, -, Hpay⟩
  iapply Hk
  isplitl [Hat]; · iexact Hat
  isplitl [Hpay]; · iapply (Entails.of_eq (rest_x X c x)); iexact Hpay
  iexact HO

/-- The first addition: chunk `i` of the input and of what landed first, into the result buffer. -/
theorem run_add_x (i : Fin 8) (q : PosShare TreeShare) (f a b : Arr F) (k : BodyProg F) (Q : PUnit → sProp 𝕄) :
    iprop(held xM c q i a ∗ held r1M c fullShare i b ∗ held oM c fullShare i f)
      ⊢ iprop(((held xM c q i a ∗ held r1M c fullShare i b ∗ held oM c fullShare i (plus a b)) -∗ run c k Q)
          -∗ run c (addInto xM r1M i k) Q) := by
  iintro ⟨Ha, Hb, Hf⟩ Hk
  unfold addInto
  rw [← stored_x c i f a b]
  unfold held
  iapply (wp_load_rect 𝒱₀ (c : Thread nD τ) none Set.univ (m := xM) (r := rows i) (subset_refl _)) $$ Ha; iintro Ha
  iapply (wp_load_rect 𝒱₀ (c : Thread nD τ) none Set.univ (m := r1M) (r := rows i) (subset_refl _)) $$ Hb; iintro Hb
  iapply (wp_load_rect 𝒱₀ (c : Thread nD τ) none Set.univ (m := oM) (r := rows i) (subset_refl _)) $$ Hf; iintro Hf
  iapply (wp_store 𝒱₀ (c : Thread nD τ) none Set.univ (m := oM) (r := rows i) (Mk := Finset.univ) (S := (chunk oM i).view.set) (subset_refl _)) $$ Hf; iintro Hf
  iapply Hk
  isplitl [Ha]; · iexact Ha
  isplitl [Hb]; · iexact Hb
  iexact Hf

/-- The second addition: chunk `i` of the result buffer and of what landed second, into the result buffer. -/
theorem run_add_o (i : Fin 8) (a b : Arr F) (k : BodyProg F) (Q : PUnit → sProp 𝕄) :
    iprop(held oM c fullShare i a ∗ held r2M c fullShare i b)
      ⊢ iprop(((held r2M c fullShare i b ∗ held oM c fullShare i (plus a b)) -∗ run c k Q)
          -∗ run c (addInto oM r2M i k) Q) := by
  iintro ⟨Ha, Hb⟩ Hk
  unfold addInto
  rw [← stored_o c i a a b]
  unfold held
  iapply (wp_load_rect 𝒱₀ (c : Thread nD τ) none Set.univ (m := oM) (r := rows i) (subset_refl _)) $$ Ha; iintro Ha
  iapply (wp_load_rect 𝒱₀ (c : Thread nD τ) none Set.univ (m := r2M) (r := rows i) (subset_refl _)) $$ Hb; iintro Hb
  iapply (wp_load_rect 𝒱₀ (c : Thread nD τ) none Set.univ (m := oM) (r := rows i) (subset_refl _)) $$ Ha; iintro Ha
  iapply (wp_store 𝒱₀ (c : Thread nD τ) none Set.univ (m := oM) (r := rows i) (Mk := Finset.univ) (S := (chunk oM i).view.set) (subset_refl _)) $$ Ha; iintro Ha
  iapply Hk
  isplitl [Hb]; · iexact Hb
  iexact Ha

/-! ## The four passes -/

/-- What every step shares: the records, the levels, and the device owing exactly `O`. -/
def state (O : CellTallies nD τ sig Unit) : sProp 𝕄 :=
  iprop(records X K ∗ levAts L lv ∗ ∃ W, owes (c : Thread nD τ) O W)

/-- Before, between and after: the first copy of chunk `i`. -/
def send1Pre (i : Fin 8) : sProp 𝕄 := iprop(held xM c lentShare i (X c) ∗ slot false i (peer false i c) ∗ duty false i c)
def send1Post (i : Fin 8) : sProp 𝕄 := cred (tallyAt (sendCell false i c) () N)

theorem due_cons (p : Bool) (i : Fin 8) (l : List (Fin 8)) :
    dueTo p c (i :: l) = tallyAt (recvCell p i (peer p i c)) () N + dueTo p c l := by
  unfold dueTo; rw [List.map_cons, List.sum_cons]

theorem step_send1 (O : CellTallies nD τ sig Unit) (Q : PUnit → sProp 𝕄) (i : Fin 8) (l : List (Fin 8)) (k : BodyProg F) :
    iprop(send1Pre X c i ∗ state X K c (dueTo false c (i :: l) + O))
      ⊢ iprop(((send1Post c i ∗ state X K c (dueTo false c l + O)) -∗ run c k Q) -∗ run c (send1 c i k) Q) := by
  unfold send1Pre send1Post state send1
  rw [due_cons, add_assoc]
  iintro ⟨⟨Hx, Hs, Hd⟩, #HR, #HL, %W, HO⟩ Hk
  iapply (run_copy1 X K c i (dev1 c i) (dev1_eq c i) (dueTo false c l + O) W k Q) $$ [Hx Hs Hd HO]
  · isplitr; · iexact HR
    isplitl [Hx]; · iexact Hx
    isplitl [Hs]; · iexact Hs
    isplitl [Hd]; · iexact Hd
    iexact HO
  iintro ⟨Hc, HO⟩
  iapply Hk
  isplitl [Hc]; · iexact Hc
  isplitr; · iexact HR
  isplitr; · iexact HL
  iexists W; iexact HO

/-- Around the second copy of chunk `i`. -/
def send2Pre (i : Fin 8) : sProp 𝕄 :=
  iprop(cred (tallyAt (recvCell false i c) () N) ∗ atPos ER (recvCell false i c) 0 ∅ 0 ∗ held xM c keptShare i (X c) ∗ (∃ f, held oM c fullShare i f)
    ∗ slot true i (peer true i c) ∗ duty true i c)
def send2Post (i : Fin 8) : sProp 𝕄 :=
  iprop(cred (tallyAt (sendCell true i c) () N) ∗ past (true, false, i) c ∗ held xM c keptShare i (X c) ∗ held r1M c fullShare i (X (peer false i c)))

theorem step_send2 (Q : PUnit → sProp 𝕄) (i : Fin 8) (l : List (Fin 8)) (k : BodyProg F) :
    iprop(send2Pre X c i ∗ state X K c (dueTo true c (i :: l)))
      ⊢ iprop(((send2Post X c i ∗ state X K c (dueTo true c l)) -∗ run c k Q) -∗ run c (send2 c i k) Q) := by
  unfold send2Pre send2Post state send2
  iintro ⟨⟨Hc, Hat, Hx, ⟨%f, Ho⟩, Hs, Hd⟩, #HR, #HL, %W, HO⟩ Hk
  iapply (run_wait X K c (true, false, i) (chunk xM i) (chunk r1M i) rfl _ W _ Q) $$ [Hc Hat HO]
  · isplitr; · iexact HR
    isplitl [Hc]; · iexact Hc
    isplitl [Hat]; · iexact Hat
    isplitr; · iapply (mayWait_recv c i (i :: l)); iexact HL
    iexact HO
  iintro ⟨Hat, Hr, HO⟩
  unfold xferPay
  iapply (run_add_x c i keptShare f (X c) (X (peer false i c)) _ Q) $$ [Hx Hr Ho]
  · isplitl [Hx]; · iexact Hx
    isplitl [Hr]; · iexact Hr
    iexact Ho
  iintro ⟨Hx, Hr, Ho⟩
  rw [due_cons]
  iapply (run_copy2 X K c i (dev2 c i) (dev2_eq c i) (dueTo true c l) (insert (.dma (xsem (true, false, i)), ()) W) k Q) $$ [Ho Hs Hd HO]
  · isplitr; · iexact HR
    isplitl [Ho]; · iexact Ho
    isplitl [Hs]; · iexact Hs
    isplitl [Hd]; · iexact Hd
    iexact HO
  iintro ⟨Hc, HO⟩
  iapply Hk
  isplitr [HO]
  · isplitl [Hc]; · iexact Hc
    isplitl [Hat]; · iexact Hat
    isplitl [Hx]; · iexact Hx
    iexact Hr
  isplitr; · iexact HR
  isplitr; · iexact HL
  iexists _; iexact HO

/-- Around the second addition of chunk `i`. -/
def finishPre (i : Fin 8) : sProp 𝕄 :=
  iprop((cred (tallyAt (sendCell true i c) () N) ∗ atPos ER (sendCell true i c) 0 ∅ 0) ∗ (cred (tallyAt (recvCell true i c) () N) ∗ atPos ER (recvCell true i c) 0 ∅ 0))
def finishPost (i : Fin 8) : sProp 𝕄 :=
  iprop(past (false, true, i) c ∗ past (true, true, i) c ∗ held r2M c fullShare i (part X i (peer true i c)) ∗ held oM c fullShare i (full X i c))

theorem step_finish (Q : PUnit → sProp 𝕄) (i : Fin 8) (l : List (Fin 8)) (k : BodyProg F) :
    iprop(finishPre c i ∗ state X K c 0) ⊢ iprop(((finishPost X c i ∗ state X K c 0) -∗ run c k Q) -∗ run c (finish i k) Q) := by
  unfold finishPre finishPost state finish
  iintro ⟨⟨⟨Hc, Hat⟩, ⟨Hc', Hat'⟩⟩, #HR, #HL, %W, HO⟩ Hk
  iapply (run_wait X K c (false, true, i) (chunk r2M i) (chunk oM i) rfl _ W _ Q) $$ [Hc Hat HO]
  · isplitr; · iexact HR
    isplitl [Hc]; · iexact Hc
    isplitl [Hat]; · iexact Hat
    isplitr; · rw [MayWait_zero]; iempintro
    iexact HO
  iintro ⟨Hat, Ho, HO⟩
  iapply (run_wait X K c (true, true, i) (chunk oM i) (chunk r2M i) rfl _ (insert (.dma (xsem (false, true, i)), ()) W) _ Q) $$ [Hc' Hat' HO]
  · isplitr; · iexact HR
    isplitl [Hc']; · iexact Hc'
    isplitl [Hat']; · iexact Hat'
    isplitr; · rw [MayWait_zero]; iempintro
    iexact HO
  iintro ⟨Hat', Hr, HO⟩
  unfold xferPay
  iapply (run_add_o c i (part X i c) (part X i (peer true i c)) k Q) $$ [Ho Hr]
  · isplitl [Ho]; · iexact Ho
    iexact Hr
  iintro ⟨Hr, Ho⟩
  iapply Hk
  isplitr [HO]
  · isplitl [Hat]; · iexact Hat
    isplitl [Hat']; · iexact Hat'
    isplitl [Hr]; · iexact Hr
    iexact Ho
  isplitr; · iexact HR
  isplitr; · iexact HL
  iexists _; iexact HO

/-- Around the wait for the first copy of chunk `i`. -/
def drainPre (i : Fin 8) : sProp 𝕄 := iprop(cred (tallyAt (sendCell false i c) () N) ∗ atPos ER (sendCell false i c) 0 ∅ 0)
def drainPost (i : Fin 8) : sProp 𝕄 := iprop(past (false, false, i) c ∗ held xM c lentShare i (X c))

theorem step_drain (Q : PUnit → sProp 𝕄) (i : Fin 8) (l : List (Fin 8)) (k : BodyProg F) :
    iprop(drainPre c i ∗ state X K c 0) ⊢ iprop(((drainPost X c i ∗ state X K c 0) -∗ run c k Q) -∗ run c (drain i k) Q) := by
  unfold drainPre drainPost state drain
  iintro ⟨⟨Hc, Hat⟩, #HR, #HL, %W, HO⟩ Hk
  iapply (run_wait X K c (false, false, i) (chunk r1M i) (chunk xM i) rfl _ W _ Q) $$ [Hc Hat HO]
  · isplitr; · iexact HR
    isplitl [Hc]; · iexact Hc
    isplitl [Hat]; · iexact Hat
    isplitr; · rw [MayWait_zero]; iempintro
    iexact HO
  iintro ⟨Hat, Hx, HO⟩
  unfold xferPay
  iapply Hk
  isplitr [HO]
  · isplitl [Hat]; · iexact Hat
    iexact Hx
  isplitr; · iexact HR
  isplitr; · iexact HL
  iexists _; iexact HO

end Cert.Butterfly

end
-- ==== Proof.Body.lean ====
/-
  The whole body on one device: from what the launch deals it to its result, with every semaphore back at zero.
-/
module

public import proofs.«01_k».proof.Proof.Steps

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Resources listed by chunk -/

/-- A resource per chunk, as a list in the body's order or as a family. -/
theorem listed (Φ : Fin 8 → sProp 𝕄) : bigSep Finset.univ Φ = bigSepL order Φ :=
  bigSep_univ_eq_bigSepL order (by decide) (by decide) Φ

/-- Two resources per chunk. -/
theorem listed_sep (A B : Fin 8 → sProp 𝕄) : bigSepL order (fun i => iprop(A i ∗ B i)) = iprop(bigSepL order A ∗ bigSepL order B) := by
  rw [← listed, ← listed, ← listed, bigSep_sep']

theorem parted (A B C : Fin 8 → sProp 𝕄) (h : ∀ i, A i ⊢ iprop(B i ∗ C i)) : bigSepL order A ⊢ iprop(bigSepL order B ∗ bigSepL order C) :=
  (bigSepL_mono fun i _ => h i).trans (Entails.of_eq (listed_sep B C))
theorem joined (A B C : Fin 8 → sProp 𝕄) (h : ∀ i, iprop(A i ∗ B i) ⊢ C i) : iprop(bigSepL order A ∗ bigSepL order B) ⊢ bigSepL order C :=
  (Entails.of_eq (listed_sep A B).symm).trans (bigSepL_mono fun i _ => h i)

/-- A resource per copy's semaphore, by chunk. -/
theorem by_chunk (Φ : XK → sProp 𝕄) : bigSep Finset.univ Φ
    = bigSepL order fun i => iprop((Φ (false, false, i) ∗ Φ (false, true, i)) ∗ (Φ (true, false, i) ∗ Φ (true, true, i))) := by
  have two (Ψ : Bool → sProp 𝕄) : bigSep Finset.univ Ψ = iprop(Ψ false ∗ Ψ true) := by
    rw [bigSep_univ_eq_bigSepL [false, true] (by decide) (by decide), bigSepL_cons_cons, bigSepL_singleton]; rfl
  rw [bigSep_univ_prod, two]
  simp only [bigSep_univ_prod, two]
  rw [listed, listed, listed, listed, listed_sep, listed_sep, listed_sep]

/-- Over the two directions of chunk `i`: listed by neighbour, or by exchange. -/
theorem turn (i : Fin 8) (G : Bool → Bool → sProp 𝕄) :
    iprop(G (dir false i) false ∗ G (dir true i) true) = iprop(G false (dir false i) ∗ G true (dir true i)) := by
  unfold dir
  cases decide (4 ≤ i.val)
  · rfl
  · show iprop(G true false ∗ G false true) = iprop(G false true ∗ G true false)
    exact BI.equiv_iff.mp ⟨BI.sep_comm, BI.sep_comm⟩

variable (X : Dev nD → Arr F) (K : GSem nD τ sig → ℕ) (c : Dev nD)

/-! ## What a device starts from and ends in -/

/-- The token of the duty at the semaphore named `k` that device `c` pays: its own send semaphore, its peer's receive semaphore. -/
def tokAt : XK → sProp 𝕄 := fun
  | (false, p, i) => dutyTok ER (sendCell p i c) 0 false
  | (true, p, i) => dutyTok ER (recvCell p i (peer p i c)) 0 false
/-- The credit the launch gives at the semaphore named `k`: a chunk at each receive semaphore. -/
def credAt : XK → sProp 𝕄 := fun
  | (false, _, _) => iprop(emp)
  | (true, p, i) => cred (tallyAt (recvCell p i c) () N)
/-- All of it for the semaphore named `k`, opened. -/
def item (k : XK) : sProp 𝕄 := iprop((atPos ER (xcell c k) 0 ∅ 0 ∗ reached ER (xcell c k) 0) ∗ tokAt c k ∗ credAt c k)

/-- Chunk `i` of the four buffers before the body: the input's block, and three of any contents. -/
def before (i : Fin 8) : sProp 𝕄 :=
  iprop(held xM c fullShare i (X c) ∗ (∃ f, held oM c fullShare i f) ∗ (∃ f, held r1M c fullShare i f) ∗ ∃ f, held r2M c fullShare i f)
/-- And after it: the sum of all four inputs in the result buffer. -/
def after (i : Fin 8) : sProp 𝕄 :=
  iprop(held xM c fullShare i (X c) ∗ held oM c fullShare i (full X i c) ∗ held r1M c fullShare i (X (peer false i c))
    ∗ held r2M c fullShare i (part X i (peer true i c)))

/-- The barrier's part: the own position, a token for each neighbour, the credit of both. -/
def atBar : sProp 𝕄 :=
  iprop(atPos ER (barCell c) 0 ∅ 0 ∗ (dutyTok ER (barCell (nb false c)) 0 false ∗ dutyTok ER (barCell (nb true c)) 0 true) ∗ cred (tallyAt (barCell c) () 2))

def bodyPre (W : Waits sig Unit) : sProp 𝕄 :=
  iprop(records X K ∗ levAts L lv ∗ owes (c : Thread nD τ) (O₀ c) W ∗ atBar c ∗ bigSep Finset.univ (item c) ∗ bigSepL order (before X c))
def bodyPost : sProp 𝕄 :=
  iprop((∃ W, owes (c : Thread nD τ) 0 W) ∗ semVal (barCell c) 0 ∗ (bigSep Finset.univ fun k : XK => semVal (xcell c k) 0) ∗ bigSepL order (after X c))

/-! ## One chunk's resources, dealt to the passes -/

def lend (i : Fin 8) : sProp 𝕄 := iprop(slot (dir false i) i c ∗ slot (dir true i) i c)
def for1 (i : Fin 8) : sProp 𝕄 := iprop(held xM c lentShare i (X c) ∗ duty false i c)
def for2 (i : Fin 8) : sProp 𝕄 :=
  iprop(cred (tallyAt (recvCell false i c) () N) ∗ atPos ER (recvCell false i c) 0 ∅ 0 ∗ held xM c keptShare i (X c) ∗ (∃ f, held oM c fullShare i f) ∗ duty true i c)
def for3 (i : Fin 8) : sProp 𝕄 :=
  iprop(atPos ER (sendCell true i c) 0 ∅ 0 ∗ (cred (tallyAt (recvCell true i c) () N) ∗ atPos ER (recvCell true i c) 0 ∅ 0))
def for4 (i : Fin 8) : sProp 𝕄 := atPos ER (sendCell false i c) 0 ∅ 0

theorem deal (i : Fin 8) :
    iprop(((item c (false, false, i) ∗ item c (false, true, i)) ∗ (item c (true, false, i) ∗ item c (true, true, i))) ∗ before X c i)
      ⊢ iprop(lend c i ∗ (for1 X c i ∗ (for2 X c i ∗ (for3 c i ∗ for4 c i)))) := by
  unfold lend
  rw [turn i fun p _ => slot p i c]
  unfold item tokAt credAt before for1 for2 for3 for4 slot duty
  iintro ⟨⟨⟨⟨⟨Ha, #Hra⟩, Hta, -⟩, ⟨⟨Hb, #Hrb⟩, Htb, -⟩⟩, ⟨⟨⟨Hd, #Hrd⟩, Htd, Hcd⟩, ⟨⟨He, #Hre⟩, Hte, Hce⟩⟩⟩, Hx, Ho, Hl1, Hl2⟩
  ihave Hxx := (halve c i (X c)).1 $$ Hx
  icases Hxx with ⟨Hx1, Hx2⟩
  isplitl [Hl1 Hl2]
  · isplitl [Hl1]
    · isplitl [Hl1]; · iexact Hl1
      iexact Hrd
    · isplitl [Hl2]; · iexact Hl2
      iexact Hre
  isplitl [Hx1 Hta Htd]
  · isplitl [Hx1]; · iexact Hx1
    isplitl [Hta]; · iexact Hta
    isplitr; · iexact Hra
    iexact Htd
  isplitl [Hcd Hd Hx2 Ho Htb Hte]
  · isplitl [Hcd]; · iexact Hcd
    isplitl [Hd]; · iexact Hd
    isplitl [Hx2]; · iexact Hx2
    isplitl [Ho]; · iexact Ho
    isplitl [Htb]; · iexact Htb
    isplitr; · iexact Hrb
    iexact Hte
  isplitl [Hb Hce He]
  · isplitl [Hb]; · iexact Hb
    isplitl [Hce]; · iexact Hce
    iexact He
  iexact Ha

/-- All the chunks' resources, dealt to the barrier's two units and to the passes. -/
theorem deal_all : iprop(bigSep Finset.univ (item c) ∗ bigSepL order (before X c))
    ⊢ iprop(((bigSep Finset.univ fun i => slot (dir false i) i c) ∗ (bigSep Finset.univ fun i => slot (dir true i) i c))
        ∗ (bigSepL order (for1 X c) ∗ (bigSepL order (for2 X c) ∗ (bigSepL order (for3 c) ∗ bigSepL order (for4 c))))) := by
  rw [by_chunk, ← listed_sep, listed, listed, ← listed_sep, ← listed_sep, ← listed_sep, ← listed_sep, ← listed_sep]
  exact bigSepL_mono fun i _ => deal X c i

/-- What both neighbours' units hand over, by exchange. -/
theorem received : iprop(barPay c false ∗ barPay c true)
    ⊢ iprop((bigSepL order fun i => slot (F := F) false i (peer false i c)) ∗ bigSepL order fun i => slot true i (peer true i c)) := by
  unfold barPay
  rw [listed, listed, ← listed_sep, ← listed_sep]
  exact bigSepL_mono fun i _ => Entails.of_eq (turn i fun p d => slot p i (nb d c))

/-- A chunk's resources after the four passes: the ends of its four rounds, and the four buffers. -/
theorem gather (i : Fin 8) : iprop((past (true, false, i) c ∗ held xM c keptShare i (X c) ∗ held r1M c fullShare i (X (peer false i c)))
      ∗ (finishPost X c i ∗ drainPost X c i))
    ⊢ iprop(((past (false, false, i) c ∗ past (false, true, i) c) ∗ (past (true, false, i) c ∗ past (true, true, i) c)) ∗ after X c i) := by
  unfold finishPost drainPost after
  iintro ⟨⟨H2, Hk, Hr1⟩, ⟨H1, H3, Hr2, Ho⟩, ⟨H0, Hl⟩⟩
  isplitl [H0 H1 H2 H3]
  · isplitl [H0 H1]
    · isplitl [H0] <;> iassumption
    isplitl [H2] <;> iassumption
  isplitl [Hk Hl]
  · iapply (halve c i (X c)).2
    isplitl [Hl] <;> iassumption
  isplitl [Ho]; · iexact Ho
  isplitl [Hr1]; · iexact Hr1
  iexact Hr2

/-! ## The body -/

theorem sound_body (W : Waits sig Unit) (Q : PUnit → sProp 𝕄) :
    iprop(bodyPre X K c W ∗ (bodyPost X c -∗ Q ⟨⟩)) ⊢ run c body Q := by
  unfold body
  rw [run, wp_deviceId]
  simp only [bar1_eq c, bar2_eq c]
  unfold bodyPre atBar
  iintro ⟨⟨#HR, #HL, HO, ⟨Hat, ⟨HtF, HtT⟩, Hcr⟩, Hit, Hbuf⟩, Hk⟩
  ihave Hd := (deal_all X c) $$ [Hit Hbuf]
  · isplitl [Hit] <;> iassumption
  icases Hd with ⟨⟨HsF, HsT⟩, H1, H2, H3, H4⟩
  unfold O₀
  iapply (Rounds.wp_signal 𝒱₀ ER (sched X) (c : Thread nD τ) none (dst := (nb false c : Thread nD τ)) (κ := K (barCell (nb false c)))
      (d := false) (by rw [duties_bar]; exact Finset.mem_univ _) ((amount_bar X (nb false c) false).trans (by decide)) () (O₁ c) rfl) $$ [HO HtF HsF]
  · isplitr; · iapply (inv_bar X K (nb false c)); iexact HR
    isplitl [HO]; · iexact HO
    isplitl [HtF]; · iexact HtF
    isplitl [HsF]
    · rw [payload_bar]; unfold barPay; rw [nb_nb]; iexact HsF
    iapply (reached_bar X K (nb false c)); iexact HR
  iintro HO
  unfold O₁
  iapply (Rounds.wp_signal 𝒱₀ ER (sched X) (c : Thread nD τ) none (dst := (nb true c : Thread nD τ)) (κ := K (barCell (nb true c)))
      (d := true) (by rw [duties_bar]; exact Finset.mem_univ _) ((amount_bar X (nb true c) true).trans (by decide)) ()
      (dueTo false c order + dueTo true c order) rfl) $$ [HO HtT HsT]
  · isplitr; · iapply (inv_bar X K (nb true c)); iexact HR
    isplitl [HO]; · iexact HO
    isplitl [HtT]; · iexact HtT
    isplitl [HsT]
    · rw [payload_bar]; unfold barPay; rw [nb_nb]; iexact HsT
    iapply (reached_bar X K (nb true c)); iexact HR
  iintro HO
  iapply (Rounds.wp_wait_rest_token 𝒱₀ ER (sched X) (c : Thread nD τ) none (κ := K (barCell c))
      (wpE_semWait_eq 𝒱₀ (c : Thread nD τ) none Set.univ) (Set.mem_univ _) () (O := dueTo false c order + dueTo true c order) (W := W) (R := 0) (m := 0) (T := ∅)
      (by rw [expect_bar])) $$ [Hcr HO Hat]
  · isplitr; · iapply (inv_bar X K c); iexact HR
    isplitl [Hcr]; · iexact Hcr
    isplitl [HO]; · iexact HO
    isplitr; · iapply (mayWait_bar c); iexact HL
    iexact Hat
  iintro ⟨HO, Hat, -, Hpay⟩
  ihave Hp := (Entails.of_eq (rest_bar X c)) $$ Hpay
  ihave Hp' := (received c) $$ Hp
  icases Hp' with ⟨Hp1, Hp2⟩
  -- the first copies
  ihave H1 := (joined (for1 X c) (fun i => slot false i (peer false i c)) (send1Pre X c) fun i => by
    unfold for1 send1Pre
    iintro ⟨⟨Ha, Hb⟩, Hc⟩
    isplitl [Ha]; · iexact Ha
    isplitl [Hc] <;> iassumption) $$ [H1 Hp1]
  · isplitl [H1] <;> iassumption
  iapply (run_pass c Q (send1 c) (send1Pre X c) (send1Post c) (fun l => state X K c (dueTo false c l + dueTo true c order))
    (step_send1 X K c _ Q) order _) $$ [H1 HO]
  · isplitl [H1]; · iexact H1
    unfold state
    isplitr; · iexact HR
    isplitr; · iexact HL
    iexists _; iexact HO
  iintro ⟨H1, HS⟩
  -- the second copies
  ihave H2 := (joined (for2 X c) (fun i => slot true i (peer true i c)) (send2Pre X c) fun i => by
    unfold for2 send2Pre
    iintro ⟨⟨Ha, Hb, Hx, Ho, Hd⟩, Hs⟩
    isplitl [Ha]; · iexact Ha
    isplitl [Hb]; · iexact Hb
    isplitl [Hx]; · iexact Hx
    isplitl [Ho]; · iexact Ho
    isplitl [Hs] <;> iassumption) $$ [H2 Hp2]
  · isplitl [H2] <;> iassumption
  iapply (run_pass c Q (send2 c) (send2Pre X c) (send2Post X c) (fun l => state X K c (dueTo true c l)) (step_send2 X K c Q) order _) $$ [H2 HS]
  · isplitl [H2]; · iexact H2
    rw [show dueTo false c [] + dueTo true c order = dueTo true c order from zero_add _]
    iexact HS
  iintro ⟨H2, HS⟩
  ihave H2' := (parted (send2Post X c) (fun i => cred (tallyAt (sendCell true i c) () N))
    (fun i => iprop(past (true, false, i) c ∗ held xM c keptShare i (X c) ∗ held r1M c fullShare i (X (peer false i c)))) fun i => by
      unfold send2Post; exact .rfl) $$ H2
  icases H2' with ⟨H2c, H2⟩
  -- the second additions
  ihave H3 := (joined (for3 c) (fun i => cred (tallyAt (sendCell true i c) () N)) (finishPre c) fun i => by
    unfold for3 finishPre
    iintro ⟨⟨Ha, Hb⟩, Hc⟩
    isplitr [Hb]
    · isplitl [Hc] <;> iassumption
    iexact Hb) $$ [H3 H2c]
  · isplitl [H3] <;> iassumption
  iapply (run_pass c Q finish (finishPre c) (finishPost X c) (fun l => state X K c 0) (step_finish X K c Q) order _) $$ [H3 HS]
  · isplitl [H3]; · iexact H3
    rw [show dueTo true c [] = 0 from rfl]
    iexact HS
  iintro ⟨H3, HS⟩
  -- the first copies' ends
  ihave H4 := (joined (for4 c) (send1Post c) (drainPre c) fun i => by
    unfold for4 send1Post drainPre
    iintro ⟨Ha, Hc⟩
    isplitl [Hc] <;> iassumption) $$ [H4 H1]
  · isplitl [H4] <;> iassumption
  iapply (run_pass c Q drain (drainPre c) (drainPost X c) (fun l => state X K c 0) (step_drain X K c Q) order _) $$ [H4 HS]
  · isplitl [H4] <;> iassumption
  iintro ⟨H4, HS⟩
  -- everything back, every round closed
  ihave H34 := (joined (finishPost X c) (drainPost X c) (fun i => iprop(finishPost X c i ∗ drainPost X c i)) fun i => .rfl) $$ [H3 H4]
  · isplitl [H3] <;> iassumption
  ihave HE := (joined (fun i => iprop(past (true, false, i) c ∗ held xM c keptShare i (X c) ∗ held r1M c fullShare i (X (peer false i c))))
    (fun i => iprop(finishPost X c i ∗ drainPost X c i)) _ (gather X c)) $$ [H2 H34]
  · isplitl [H2] <;> iassumption
  ihave HE' := (Entails.of_eq (listed_sep _ _)) $$ HE
  icases HE' with ⟨Hpast, Haft⟩
  ihave Hpast := (Entails.of_eq (by_chunk (fun k => past (F := F) k c)).symm) $$ Hpast
  ihave Hclose := (bigSep_with_persistent (R := records X K) (S := Finset.univ) (Φ := fun k : XK => past k c)
      (Ψ := fun k : XK => iprop(|={Set.univ}=> semVal (xcell c k) 0)) fun k _ => by
    iintro ⟨#HR, Hp⟩
    iapply (Rounds.cell_close ER (sched X) (Set.mem_univ (K (xcell c k))) (fun h => h) (R := 1) (duties_later X (xcell c k)))
    isplitr; · iapply (inv_x X K c k); iexact HR
    iexact Hp) $$ [Hpast]
  · isplitr; · iexact HR
    iexact Hpast
  imod (bigSep_fupd (E := Set.univ) Finset.univ fun k : XK => (semVal (xcell c k) 0 : sProp 𝕄)) $$ Hclose with Hz
  imod (Rounds.cell_close ER (sched X) (Set.mem_univ (K (barCell c))) (fun h => h) (R := 0 + 1) (duties_later X (barCell c))) $$ [Hat] with Hb
  · isplitr; · iapply (inv_bar X K c); iexact HR
    iexact Hat
  rw [wp_ret]; imodintro
  iapply Hk
  unfold bodyPost state
  icases HS with ⟨-, -, HO⟩
  isplitl [HO]; · iexact HO
  isplitl [Hb]; · iexact Hb
  isplitl [Hz]; · iexact Hz
  iexact Haft

end Cert.Butterfly

end
-- ==== Proof.Launch.lean ====
/-
  What the launch deals each device: the positions and tokens of its barrier, the rights to open its copies' semaphores, the
  tokens of the duties it pays on its neighbours, and the credit of what its neighbours owe it.
-/
module

public import proofs.«01_k».proof.Proof.Body

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Arr F) (K : GSem nD τ sig → ℕ) (c : Dev nD)

/-! ## The kernel's own semaphores -/

/-- The copies' semaphores are the kernel's own. -/
abbrev osem : XK → SemLoc sig := fun k => .dma (xsem k)
theorem ownSemFacts : Pipeline.OwnSemFacts spec0 osem := by decide
theorem own_eq : (Pipeline.ownSems0 osem c : sProp 𝕄) = bigSep Finset.univ fun k : XK => semVal (xcell c k) 0 := rfl

/-- The barrier's semaphore is the only one that outlives the kernel. -/
theorem unscoped_bar : ∀ sm : SemLoc sig, sm.isScoped .tc = false → sm = .reg barS := by decide
theorem unscopedSems0_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem disjoint_cells : Disjoint (barCells : Finset (GSem nD τ sig)) xCells := by
  rw [Finset.disjoint_left]
  rintro g h₁ h₂
  obtain ⟨c, -, rfl⟩ := Finset.mem_map.mp h₁
  obtain ⟨ck, -, h⟩ := Finset.mem_map.mp h₂
  have h' : SemLoc.dma (xsem ck.2) = SemLoc.reg barS := congrArg Prod.snd h
  exact absurd h' (by simp)

/-! ## Tokens -/

/-- The duties at a device's semaphores: two at its barrier, one at each copy's semaphore. -/
abbrev DK : Type := Bool ⊕ XK

/-- The device that pays it. -/
def payer (c : Dev nD) : DK → Dev nD := fun
  | .inl b => nb b c
  | .inr (false, _, _) => c
  | .inr (true, p, i) => peer p i c
theorem payer_payer (s : DK) : payer (payer c s) s = c := by
  rcases s with b | ⟨_ | _, p, i⟩
  · exact nb_nb b c
  · rfl
  · exact peer_peer p i c
/-- Duties listed by the device they are due at, or by the device that pays them. -/
def payE : Dev nD × DK ≃ Dev nD × DK :=
  ⟨fun x => (payer x.1 x.2, x.2), fun x => (payer x.1 x.2, x.2), fun x => Prod.ext (payer_payer x.1 x.2) rfl, fun x => Prod.ext (payer_payer x.1 x.2) rfl⟩

/-- A duty as minted: its semaphore, its round, its name there. -/
def mint (x : Dev nD × DK) : GSem nD τ sig × ℕ × Bool := match x.2 with
  | .inl b => (barCell x.1, 0, b)
  | .inr k => (xcell x.1 k, 0, false)
theorem mint_inj : Function.Injective mint := by
  rintro ⟨c, b | k⟩ ⟨c', b' | k'⟩ h
  · have h1 : c = c' := congrArg (fun t : GSem nD τ sig × ℕ × Bool => t.1.1.1) h
    have h2 : b = b' := congrArg (fun t : GSem nD τ sig × ℕ × Bool => t.2.2) h
    rw [h1, h2]
  · have h' : SemLoc.reg barS = SemLoc.dma (xsem k') := congrArg (fun t : GSem nD τ sig × ℕ × Bool => t.1.2) h
    exact absurd h' (by simp)
  · have h' : SemLoc.dma (xsem k) = SemLoc.reg barS := congrArg (fun t : GSem nD τ sig × ℕ × Bool => t.1.2) h
    exact absurd h' (by simp)
  · have h1 : c = c' := congrArg (fun t : GSem nD τ sig × ℕ × Bool => t.1.1.1) h
    have h2 : SemLoc.dma (xsem k) = SemLoc.dma (xsem k') := congrArg (fun t : GSem nD τ sig × ℕ × Bool => t.1.2) h
    rw [h1, xsem_inj (SemLoc.dma.inj h2)]
def minted : Finset (GSem nD τ sig × ℕ × Bool) := Finset.univ.map ⟨mint, mint_inj⟩

/-- The barrier tokens a device pays with. -/
def barToks : sProp 𝕄 := iprop(dutyTok ER (barCell (nb false c)) 0 false ∗ dutyTok ER (barCell (nb true c)) 0 true)

/-- All tokens minted, each at the device that pays with it. -/
theorem minted_eq : bigSep minted (fun x => (dutyTok ER x.1 x.2.1 x.2.2 : sProp 𝕄))
    = bigSep Finset.univ fun c : Dev nD => iprop(barToks c ∗ bigSep Finset.univ (tokAt c)) := by
  unfold minted
  rw [bigSep_map, bigSep_univ_equiv payE, bigSep_univ_prod]
  refine bigSep_congr fun c _ => (BI.bigSep_univ_sum _).trans ?_
  unfold barToks
  rw [bigSep_univ_eq_bigSepL [false, true] (by decide) (by decide), bigSepL_cons_cons, bigSepL_singleton]
  refine congrArg₂ _ rfl (bigSep_congr fun k _ => ?_)
  obtain ⟨_ | _, p, i⟩ := k <;> rfl

/-! ## Credit -/

/-- What is due for all chunks, as a sum over them. -/
theorem due_sum (p : Bool) (d : Dev nD) : dueTo p d order = ∑ i : Fin 8, tallyAt (recvCell p i (peer p i d)) () N := by
  unfold dueTo
  rw [Fin.sum_univ_eight]
  simp only [List.map_cons, List.map_nil, List.sum_cons, List.sum_nil, add_zero]
  ac_rfl

theorem recv_eq_iff (p p' : Bool) (i i' : Fin 8) (c c' : Dev nD) : recvCell p i c = recvCell p' i' c' ↔ c = c' ∧ p = p' ∧ i = i' := by
  constructor
  · intro h
    have h1 : c = c' := congrArg (fun g : GSem nD τ sig => g.1.1) h
    have h2 := xsem_inj (SemLoc.dma.inj (congrArg Prod.snd h))
    exact ⟨h1, congrArg (fun k : XK => k.2.1) h2, congrArg (fun k : XK => k.2.2) h2⟩
  · rintro ⟨rfl, rfl, rfl⟩; rfl

theorem due_recv (p' : Bool) (d : Dev nD) (p : Bool) (i : Fin 8) (c : Dev nD) :
    dueTo p' d order (recvCell p i c) () = if p' = p ∧ d = peer p i c then N else 0 := by
  rw [due_sum, Finset.sum_apply, Finsupp.finset_sum_apply]
  simp only [tallyAt_apply, recv_eq_iff, and_true]
  by_cases hp : p' = p
  · subst hp
    rw [Finset.sum_eq_single i (fun j _ hj => if_neg fun h => hj h.2.2.symm) fun h => absurd (Finset.mem_univ _) h]
    refine if_congr ⟨fun h => ⟨rfl, by rw [h.1, peer_peer]⟩, fun h => ⟨by rw [h.2, peer_peer], rfl, rfl⟩⟩ rfl rfl
  · rw [if_neg fun h => hp h.1]
    exact Finset.sum_eq_zero fun j _ => if_neg fun h => hp h.2.1.symm
theorem due_bar (p' : Bool) (d : Dev nD) (c : Dev nD) : dueTo p' d order (barCell c) () = 0 := by
  by_contra h
  obtain ⟨i, hi⟩ := dueTo_pos (Nat.pos_of_ne_zero h)
  have h' : SemLoc.reg barS = SemLoc.dma (xsem (true, p', i)) := congrArg Prod.snd hi
  exact absurd h' (by simp)

theorem owed_recv (d : Dev nD) (p : Bool) (i : Fin 8) (c : Dev nD) : O₀ d (recvCell p i c) () = if d = peer p i c then N else 0 := by
  have hne (b : Bool) : recvCell p i c ≠ barCell (nb b d) := fun h => by
    have h' : SemLoc.dma (xsem (true, p, i)) = SemLoc.reg barS := congrArg Prod.snd h
    exact absurd h' (by simp)
  unfold O₀ O₁
  rw [Pi.add_apply, Finsupp.add_apply, Pi.add_apply, Finsupp.add_apply, Pi.add_apply, Finsupp.add_apply, due_recv, due_recv, tallyAt_apply, tallyAt_apply,
    if_neg (c := recvCell p i c = barCell (nb true d) ∧ () = ()) (fun h => hne _ h.1),
    if_neg (c := recvCell p i c = barCell (nb false d) ∧ () = ()) (fun h => hne _ h.1)]
  cases p <;> simp
theorem owed_bar (d c : Dev nD) : O₀ d (barCell c) () = (if d = nb true c then 1 else 0) + if d = nb false c then 1 else 0 := by
  have e (b : Bool) : (barCell c = barCell (nb b d) ∧ () = ()) ↔ d = nb b c := by
    constructor
    · rintro ⟨h, -⟩
      have h1 : c = nb b d := congrArg (fun g : GSem nD τ sig => g.1.1) h
      rw [h1, nb_nb]
    · rintro rfl; rw [nb_nb]; exact ⟨rfl, rfl⟩
  unfold O₀ O₁
  rw [Pi.add_apply, Finsupp.add_apply, Pi.add_apply, Finsupp.add_apply, Pi.add_apply, Finsupp.add_apply, due_bar, due_bar, tallyAt_apply, tallyAt_apply,
    if_congr (e _) rfl rfl, if_congr (e _) rfl rfl]
  simp only [Nat.zero_add]

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ _ fun _ => 1, Finset.sum_ite_eq' Finset.univ _ fun _ => 1, if_pos (Finset.mem_univ _), if_pos (Finset.mem_univ _)]
theorem launch_recv (p : Bool) (i : Fin 8) :
    tallyOn (recvCell p i c) (launchCredit (Pipeline.owing O₀) 0 (recvCell p i c)) = (tallyAt (recvCell p i c) () N : CellTallies nD τ sig Unit) := by
  unfold tallyAt; refine congrArg _ (Finsupp.ext fun u => ?_); cases u
  rw [Pipeline.launchCredit_owing, Finsupp.single_eq_same, Finset.sum_congr rfl fun d _ => owed_recv d p i c,
    Finset.sum_ite_eq' Finset.univ _ fun _ => N, if_pos (Finset.mem_univ _)]

/-- The copies' semaphores, as a family of a device's semaphores. -/
def osemEmb : XK ↪ SemLoc sig := ⟨osem, fun _ _ h => xsem_inj (SemLoc.dma.inj h)⟩

/-- The launch credit of a device: both units at its barrier, a chunk at each receive semaphore. -/
theorem creds : (Pipeline.launchCred O₀ c : sProp 𝕄) ⊢ iprop(cred (tallyAt (barCell c) () 2) ∗ bigSep Finset.univ (credAt c)) := by
  unfold Pipeline.launchCred
  rw [bigSep_univ_at _ (SemLoc.reg barS), launch_bar]
  refine sep_mono_right ?_
  refine (BI.bigSep_subset (t := Finset.univ.map osemEmb) fun sm h => ?_).trans ?_
  · obtain ⟨k, -, rfl⟩ := Finset.mem_map.mp h
    exact Finset.mem_erase.mpr ⟨fun h' => absurd (show SemLoc.dma (xsem k) = SemLoc.reg barS from h') (by simp), Finset.mem_univ _⟩
  · rw [BI.bigSep_map]
    refine bigSep_mono fun k _ => ?_
    obtain ⟨_ | _, p, i⟩ := k
    · show _ ⊢ (iprop(emp) : sProp 𝕄)
      iintro -; iempintro
    · exact Entails.of_eq (congrArg (fun t => (cred t : sProp 𝕄)) (launch_recv c p i))

/-! ## A device's share -/

/-- What stays with a device: its barrier position, the tokens it pays with, the rights to open its copies' semaphores. -/
def linear : sProp 𝕄 :=
  iprop(atPos ER (barCell c) 0 ∅ 0 ∗ (bigSep Finset.univ fun k : XK => openTok ER (xcell c k)) ∗ (barToks c ∗ bigSep Finset.univ (tokAt c)))

/-- What the launch keeps for the kernel's region. -/
def kept : sProp 𝕄 :=
  iprop((∃ K, records X K ∗ linear c) ∗ cred (tallyAt (barCell c) () 2) ∗ bigSep Finset.univ (credAt c))
/-- What the body starts from, but for its buffers and its dues. -/
def opened : sProp 𝕄 :=
  iprop(∃ K, records X K ∗ levAts L lv ∗ atBar c ∗ bigSep Finset.univ (item c))

/-- Opening one of the copies' semaphores. -/
theorem open_item (k : XK) : iprop(records X K ∗ (semVal (xcell c k) 0 ∗ openTok ER (xcell c k) ∗ tokAt c k ∗ credAt c k))
    ⊢ iprop(|={Set.univ}=> item (F := F) c k) := by
  unfold item
  iintro ⟨#HR, Hs, Ho, Ht, Hc⟩
  imod (Rounds.cell_open ER (sched X) (g := xcell c k) (Set.mem_univ (K (xcell c k)))) $$ [Ho Hs] with ⟨Ha, Hr⟩
  · isplitr; · iapply (inv_x X K c k); iexact HR
    isplitl [Ho] <;> iassumption
  imodintro
  isplitl [Ha Hr]
  · isplitl [Ha] <;> iassumption
  isplitl [Ht] <;> iassumption

/-- At the region's entry, with the own counters at zero, every semaphore of the copies opens. -/
theorem open_all : iprop(kept X c ∗ Pipeline.ownSems0 osem c ∗ levAts L lv) ⊢ (|={Set.univ}=> opened X c : sProp 𝕄) := by
  rw [own_eq]
  unfold kept opened linear atBar barToks
  iintro ⟨⟨⟨%K, #HR, Ha, Ho, Htb, Ht⟩, Hcb, Hc⟩, Hs, #HL⟩
  ihave H := (show iprop(records X K ∗ bigSep Finset.univ fun k : XK => iprop(semVal (xcell c k) 0 ∗ openTok ER (xcell c k) ∗ tokAt c k ∗ credAt c k))
      ⊢ bigSep Finset.univ fun k : XK => iprop(|={Set.univ}=> item (F := F) c k) from
    bigSep_with_persistent fun k _ => open_item X K c k) $$ [Hs Ho Ht Hc]
  · isplitr; · iexact HR
    rw [bigSep_sep', bigSep_sep', bigSep_sep']
    isplitl [Hs]; · iexact Hs
    isplitl [Ho]; · iexact Ho
    isplitl [Ht] <;> iassumption
  imod (bigSep_fupd (E := Set.univ) Finset.univ fun k : XK => item (F := F) c k) $$ H with H
  imodintro
  iexists K
  isplitr; · iexact HR
  isplitr; · iexact HL
  isplitr [H]
  · isplitl [Ha]; · iexact Ha
    isplitl [Htb] <;> iassumption
  iexact H

end Cert.Butterfly

end
-- ==== Proof.Run.lean ====
/-
  The whole program: the host's reshape, then the kernel, from any memory with all semaphores at zero. Every execution on the
  four devices ends, leaves the argument as it was and every semaphore at zero, and leaves in the result, chunk by chunk, the
  sum of the four devices' arguments in the order in which the kernel adds them.
-/
module

public import proofs.«01_k».proof.Proof.Launch
public import proofs.«01_k».proof.Proof.Gen.KernelIdeal.Launch
public import proofs.«01_k».proof.Proof.Gen.KernelIdeal.Frame
public import Idealize.ShloMosaic.Lib.Pipeline.RegionTalk
public import Idealize.ShloMosaic.Lib.Pipeline.Regions

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Whole buffers and their chunks -/

section Whole

variable (X : Dev nD → Arr F) (c : Dev nD)

abbrev whole (b : Ref sig .tc) (f : Buf (Elt F) ((c : Thread nD τ).loc b)) : sProp 𝕄 := ((c : Thread nD τ).loc b) ↦{fullShare} f

/-- What the four devices' blocks add up to on `c`, chunk by chunk. -/
def total : Arr F := glue fun i => full X i c

/-- The four buffers before the body, cut into chunks. -/
theorem cut_before : iprop(whole c cc0_stg0_0 (X c) ∗ (∃ f, whole c cc0_stg1_0 f) ∗ (∃ f, whole c cc0_scratch0 f) ∗ ∃ f, whole c cc0_scratch1 f)
    ⊢ bigSepL order (before X c) := by
  unfold before
  rw [listed_sep, listed_sep, listed_sep]
  iintro ⟨Hx, ⟨%fo, Ho⟩, ⟨%f1, H1⟩, ⟨%f2, H2⟩⟩
  isplitl [Hx]
  · have e : whole c cc0_stg0_0 (X c) ⊢ bigSepL order fun i => held xM c fullShare i (X c) := Entails.of_eq (cut_x c fullShare fun _ => X c)
    iapply e $$ Hx
  isplitl [Ho]
  · have e : whole c cc0_stg1_0 fo ⊢ bigSepL order fun i => iprop(∃ f, held oM c fullShare i f) :=
      (Entails.of_eq (cut_o c fullShare fun _ => fo)).trans (bigSepL_mono fun i _ => exists_intro fo)
    iapply e $$ Ho
  isplitl [H1]
  · have e : whole c cc0_scratch0 f1 ⊢ bigSepL order fun i => iprop(∃ f, held r1M c fullShare i f) :=
      (Entails.of_eq (cut_r1 c fullShare fun _ => f1)).trans (bigSepL_mono fun i _ => exists_intro f1)
    iapply e $$ H1
  have e : whole c cc0_scratch1 f2 ⊢ bigSepL order fun i => iprop(∃ f, held r2M c fullShare i f) :=
    (Entails.of_eq (cut_r2 c fullShare fun _ => f2)).trans (bigSepL_mono fun i _ => exists_intro f2)
  iapply e $$ H2

/-- The four buffers after the body, put together. -/
theorem join_after : bigSepL order (after X c)
    ⊢ iprop(whole c cc0_stg0_0 (X c) ∗ whole c cc0_stg1_0 (total X c) ∗ (∃ f, whole c cc0_scratch0 f) ∗ ∃ f, whole c cc0_scratch1 f) := by
  unfold after
  rw [listed_sep, listed_sep, listed_sep]
  iintro ⟨Hx, Ho, H1, H2⟩
  isplitl [Hx]
  · iapply (Entails.of_eq (cut_x c fullShare fun _ => X c).symm) $$ Hx
  isplitl [Ho]
  · iapply (Entails.of_eq (cut_o c fullShare fun i => full X i c).symm) $$ Ho
  isplitl [H1]
  · iexists (glue fun i => X (peer false i c))
    iapply (Entails.of_eq (cut_r1 c fullShare fun i => X (peer false i c)).symm) $$ H1
  iexists (glue fun i => part X i (peer true i c))
  iapply (Entails.of_eq (cut_r2 c fullShare fun i => part X i (peer true i c)).symm) $$ H2

end Whole

/-! ## The buffers that outlive the kernel -/

variable (m : (ℓ : Loc nD τ sig) → Buf (Elt F) ℓ) (ρ : Dev nD → PrngReg)

def bufs : Finset (DevRef τ sig) := (StableHlo.tcRefs τ sig).filter fun b => ¬ b.isScoped
/-- All of them but the kernel's operand and result. -/
def aside : Finset (DevRef τ sig) := {Proc.devRef .tc main_arg0}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem bufs_eq (c : Dev nD) (W : Valuation τ sig (Elt F)) : (StableHlo.held (c : Thread nD τ) bufs W : sProp 𝕄)
    = iprop(whole c main_arg0 (W main_arg0) ∗ whole c main_v1 (W main_v1) ∗ whole c main_v2 (W main_v2)) := by
  unfold StableHlo.held
  rw [bigSep_eq_bigSepL_of_eq [Proc.devRef .tc main_arg0, Proc.devRef .tc main_v1, Proc.devRef .tc main_v2] (by decide) (by decide)]
  rfl
theorem arrays_eq (c : Dev nD) (W : Valuation τ sig (Elt F)) :
    (StableHlo.held (c : Thread nD τ) (Pipeline.arrRefs (τ := τ) spec0) W : sProp 𝕄) = iprop(whole c main_v1 (W main_v1) ∗ whole c main_v2 (W main_v2)) := by
  unfold StableHlo.held
  rw [bigSep_eq_bigSepL_of_eq [Proc.devRef .tc main_v1, Proc.devRef .tc main_v2] (by decide) (by decide)]
  rfl
theorem aside_eq (c : Dev nD) (W : Valuation τ sig (Elt F)) : (StableHlo.held (c : Thread nD τ) aside W : sProp 𝕄) = whole c main_arg0 (W main_arg0) := by
  unfold StableHlo.held aside
  rw [BI.bigSep_singleton]
theorem none_eq (c : Dev nD) (W : Valuation τ sig (Elt F)) : (StableHlo.held (c : Thread nD τ) ∅ W : sProp 𝕄) = BI.emp := by
  unfold StableHlo.held
  exact BI.bigSep_empty

/-- The buffers at the start, when the kernel begins, and when it has ended. -/
def V₀ (c : Dev nD) : Valuation τ sig (Elt F) := fun b => m (c, b)
def V₁ (c : Dev nD) : Valuation τ sig (Elt F) := StableHlo.after hostOps0 (V₀ m c)
/-- A device's block, as the kernel meets it. -/
def input (c : Dev nD) : Arr F := V₁ m c main_v1
def V₂ (c : Dev nD) : Valuation τ sig (Elt F) := Function.update (V₁ m c) (Proc.devRef .tc main_v2) (total (input m) c)

theorem V₁_arg (c : Dev nD) : V₁ m c main_arg0 = m ((c : Thread nD τ).loc main_arg0) := V_main_arg0 m c
theorem input_eq (c : Dev nD) : input m c = shapeCast S256x256 (m ((c : Thread nD τ).loc main_arg0)) shapeCasts_S1x1x256x256_S256x256 := by
  unfold input V₁
  rw [StableHlo.after_cons, StableHlo.after_nil]
  rfl
theorem V₂_res (c : Dev nD) : V₂ m c main_v2 = total (input m) c := Function.update_self ..
theorem V₂_op (c : Dev nD) : V₂ m c main_v1 = V₁ m c main_v1 := Function.update_of_ne (by decide) ..
theorem V₂_arg (c : Dev nD) : V₂ m c main_arg0 = V₁ m c main_arg0 := Function.update_of_ne (by decide) ..

/-! ## The kernel as a region of the program -/

/-- The kernel's scratch buffers and its random-number register, at any contents. -/
def spare (c : Dev nD) : sProp 𝕄 :=
  iprop(((∃ f, whole c cc0_scratch0 f) ∗ ∃ f, whole c cc0_scratch1 f) ∗ ∃ r, prngReg c r)
/-- Every semaphore of the kernel at zero. -/
def allZero (c : Dev nD) : sProp 𝕄 :=
  iprop(semVal (barCell c) 0 ∗ bigSep Finset.univ fun k : XK => semVal (xcell c k) 0)

/-- The kernel's operand and result: the block stays, the result becomes the total; dues are owed before its one point only. -/
def dat (c : Dev nD) : Dat τ (Elt F) Unit ℕ UU ℕ cfg0 c where
  A w := V₁ m c (Pipeline.arrRef spec0 w)
  after w _ := match w with
    | ⟨0, _⟩ => input m c
    | ⟨1, _⟩ => total (input m) c
  Φ t := if t.val = 0 then iprop(opened (input m) c ∗ spare c) else iprop(allZero c ∗ spare c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owed_first (c : Dev nD) : (dat m c).owed (t0_0 : Fin cfg0.N).castSucc = O₀ c := by
  show (if ((t0_0 : Fin cfg0.N).castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem owes_of (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, H⟩; iexists W; iexact H
theorem of_owes (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro H; iexists W; isplitr; · ipureintro; exact fun _ _ => Or.inl trivial
  iexact H

/-- A staging buffer held whole at contents `f`. -/
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ whole c b g) := by
  unfold owns; simp only [Memref.view_whole, View.read_whole, View.set_whole]

theorem index_in : (fun a => win0_0.index t0_0 a * main_v1.ty.shape.size a) = fun _ => 0 := funext fun a => by fin_cases a <;> decide
theorem index_out : (fun a => win0_1.index t0_0 a * main_v2.ty.shape.size a) = fun _ => 0 := funext fun a => by fin_cases a <;> decide

/-- The operand's staging buffer holds the device's block. -/
theorem staged (c : Dev nD) (d) : (dat m c).before 0 t0_0 d = input m c := by
  have e : (dat m c).before 0 t0_0 d = (win0_0.blk t0_0).view.read (Elt F) (input m c) := by
    unfold Dat.before
    rw [if_pos (fetch0_0 _)]
    rfl
  exact e.trans (Memref.read_access_unit_zero (Elt F) main_v1 index_in (fun a => by fin_cases a <;> decide) _)

/-- The result buffer ends at the total. -/
theorem written (c : Dev nD) : (dat m c).arrAt 1 cfg0.N = total (input m) c := by
  have e : (win0_1.blk t0_0).view.read (Elt F) ((dat m c).arrAt 1 cfg0.N) = total (input m) c := by
    rw [show cfg0.N = (t0_0 : Fin cfg0.N).val + 1 from N_0, (dat m c).arrAt_succ 1 t0_0, if_pos (flush0_1 _)]
    exact View.read_write_univ _ _
  exact (Memref.read_access_unit_zero (Elt F) main_v2 index_out (fun a => by fin_cases a <;> decide) _).symm.trans e

set_option maxRecDepth 100000 in
/-- One run of the body, from the region's start to its end. -/
theorem body_obligation (c : Dev nD) : BodyObligation (dat m c) defs₀ 𝒱₀ () Set.univ := fun t => by
  obtain rfl := fin_N0 t
  rw [bigSep_W0, bigSep_W0]
  rw [show (dat m c).Φ (t0_0 : Fin cfg0.N).castSucc = iprop(opened (input m) c ∗ spare c) from rfl,
    show (dat m c).Φ (t0_0 : Fin cfg0.N).succ = iprop(allZero c ∗ spare c) from rfl]
  change iprop((opened (input m) c ∗ spare c) ∗ (dat m c).owesAt () (t0_0 : Fin cfg0.N).castSucc
      ∗ ((∃ d, owns (c : Thread nD τ) (Memref.whole cc0_stg0_0) fullShare ((dat m c).before 0 t0_0 d)) ∗ (∃ d, owns (c : Thread nD τ) (Memref.whole cc0_stg1_0) fullShare ((dat m c).before 1 t0_0 d))))
    ⊢ run c (cc0_body xM (Memref.isWhole_whole _) oM (Memref.isWhole_whole _) r1M (Memref.isWhole_whole _) r2M (Memref.isWhole_whole _) cc0_scratch2 cc0_scratch3)
      fun _ => iprop((allZero c ∗ spare c) ∗ (dat m c).owesAt () (t0_0 : Fin cfg0.N).succ
        ∗ (owns (c : Thread nD τ) (Memref.whole cc0_stg0_0) fullShare (input m c) ∗ owns (c : Thread nD τ) (Memref.whole cc0_stg1_0) fullShare (total (input m) c)))
  rw [body_eq]
  simp only [owns_whole, staged]
  unfold opened spare allZero
  iintro ⟨⟨⟨%K, #HR, #HL, Hb, Hi⟩, ⟨Hr1, Hr2⟩, Hp⟩, HO, ⟨⟨%d, %fx, %hx, Hx⟩, ⟨%d', %fo, %ho, Ho⟩⟩⟩
  subst hx
  ihave HO' := (owes_of m c _ (O₀ c) (owed_first m c)) $$ HO
  icases HO' with ⟨%W, HO⟩
  iapply (sound_body (input m) K c W _)
  isplitl [Hb Hi Hr1 Hr2 HO Hx Ho]
  · unfold bodyPre
    isplitr; · iexact HR
    isplitr; · iexact HL
    isplitl [HO]; · iexact HO
    isplitl [Hb]; · iexact Hb
    isplitl [Hi]; · iexact Hi
    iapply (cut_before (input m) c)
    isplitl [Hx]; · iexact Hx
    isplitl [Ho]; · iexists fo; iexact Ho
    isplitl [Hr1] <;> iassumption
  unfold bodyPost
  iintro ⟨⟨%W', HO⟩, Hz, Hzs, Ha⟩
  ihave Hj := (join_after (input m) c) $$ Ha
  icases Hj with ⟨Hx, Ho, Hr1, Hr2⟩
  isplitl [Hz Hzs Hr1 Hr2 Hp]
  · isplitl [Hz Hzs]
    · isplitl [Hz] <;> iassumption
    isplitl [Hr1 Hr2]
    · isplitl [Hr1] <;> iassumption
    iexact Hp
  isplitl [HO]; · iapply (of_owes m c _ 0 (owed_last m c) W'); iexact HO
  isplitl [Hx]
  · iexists (input m c); isplitr; · ipureintro; rfl
    iexact Hx
  iexists (total (input m) c); isplitr; · ipureintro; rfl
  iexact Ho

theorem rest_eq (c : Dev nD) : (Pipeline.scopedRest (Ix := Unit) (Name := ℕ) (U := UU) (Lvl := ℕ) (Val := Elt F) (Pipeline.pin (pcfgs (F := F)) adm 0).spec c : sProp 𝕄)
    = iprop((∃ f, whole c cc0_scratch0 f) ∗ ∃ f, whole c cc0_scratch1 f) := scopedRest0_eq c

theorem region_in (c : Dev nD) :
    iprop(Pipeline.scopedRest (Pipeline.pin (pcfgs (F := F)) adm 0).spec c ∗ (∃ r, prngReg c r) ∗ StableHlo.held (c.tc : Thread nD τ) ∅ (V₁ m c) ∗ opened (input m) c)
      ⊢ (pdats m 0 c).Φ 0 := by
  rw [show (pdats m 0 c).Φ 0 = iprop(opened (input m) c ∗ spare c) from rfl, rest_eq]
  unfold spare
  iintro ⟨Hr, Hp, -, Hk⟩
  isplitl [Hk]; · iexact Hk
  isplitl [Hr] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ semVal (barCell c) 0) := by
  rw [show (pdats m 0 c).Φ (Fin.last _) = iprop(allZero c ∗ spare c) from rfl, rest_eq, none_eq, own_eq]
  unfold spare allZero
  iintro ⟨⟨Hb, Hx⟩, Hr, Hp⟩
  isplitl [Hr]; · iexact Hr
  isplitl [Hp]; · iexact Hp
  isplitr; · iempintro
  isplitl [Hx] <;> iassumption

/-- Whatever is owed is owed above the level of the kernel's own transfers to and from its staging buffers. -/
theorem owed_above (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨p, j, rfl⟩ | ⟨b, rfl⟩
    · exact ⟨by rw [L_tc]; exact Finset.mem_singleton_self _, by rw [lv_recv]; cases p <;> decide⟩
    · exact ⟨by rw [L_tc]; exact Finset.mem_singleton_self _, by dsimp only [lv]; simp⟩
  · exact absurd h (Nat.lt_irrefl 0)

theorem staging_level (c : Dev nD) (w : Fin (Pipeline.pin (pcfgs (F := F)) adm 0).W) (s : Fin ((Pipeline.pin (pcfgs (F := F)) adm 0).win w |>.nbuf)) :
    lv ((c : Thread nD τ), .dma (((Pipeline.pin (pcfgs (F := F)) adm 0).win w).sem s)) () ≤ 0 := by
  match w, s with
  | ⟨0, _⟩, _ => exact Nat.le_refl 0
  | ⟨1, _⟩, _ => exact Nat.le_refl 0

theorem no_tables : Pipeline.PLaunchFacts (nD := nD) (τ := τ) (pcfgs (F := F)) 0 := launch0.toP

set_option backward.isDefEq.respectTransparency.types false in
/-- The kernel as a region: entered with what the launch kept for it and all dues, left with the barrier at zero and none. -/
def region : Pipeline.RegionSeg (pcfgs (F := F)) adm (pdats m) () defs₀ 𝒱₀ L lv 0 :=
  Pipeline.RegionSeg.ofTalk (pcfgs (F := F)) adm (pdats m) () defs₀ 𝒱₀ L lv 0 osem ownSemFacts ∅ aside (Finset.empty_subset _) no_tables rfl
    (fun c => (body_obligation m c).loose)
    (fun _ => 0) O₀ (fun c => (owed_first m c).trans (zero_add _).symm) (owed_last m) (fun _ => rfl)
    (fun _ w => by match w with | ⟨0, _⟩ => rfl | ⟨1, _⟩ => rfl)
    (V₁ m) (V₂ m) (fun c b hb => by
      rw [Finset.sdiff_empty] at hb
      obtain rfl := Finset.mem_singleton.mp hb
      exact V₂_arg m c)
    (kept (input m)) (fun c => semVal (barCell c) 0) (opened (input m)) (fun c => semVal (barCell c) 0)
    (open_all (input m)) (region_in m) (region_out m) (fun c => by iintro H; imodintro; iexact H)
    (fun _ => 0)
    ⟨fun c w s => by rw [L_tc]; exact Finset.mem_singleton_self _, fun c w s => staging_level c w s, fun c t g i h => owed_above m c t g i h⟩
    (fun _ => iprop(emp))
    (fun c w => by match w with | ⟨0, _⟩ => rfl | ⟨1, _⟩ => rfl)
    (fun c w => by
      match w with
      | ⟨0, _⟩ => exact ((dat m c).arrAt_in 0 rfl _).trans (V₂_op m c).symm
      | ⟨1, _⟩ => exact (written m c).trans (V₂_res m c).symm)

/-- What rides beside the buffers while the host works: the region's share, the register, the dues. -/
def riding (c : Dev nD) : sProp 𝕄 :=
  iprop(kept (input m) c ∗ (∃ r, prngReg c r) ∗ ∃ W, owes (c : Thread nD τ) (O₀ c) W)

theorem region_pre (c : Dev nD) : iprop(StableHlo.held (c : Thread nD τ) bufs (V₁ m c) ∗ riding m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) aside (V₁ m c) ∗ emp) ∗ kept (input m) c ∗ ∃ W, owes (c : Thread nD τ) (0 + O₀ c) W)
  rw [arrays_eq, aside_eq, bufs_eq, zero_add]
  unfold riding
  iintro ⟨⟨Ha, H1, H2⟩, Hk, Hp, HO⟩
  isplitl [H1 H2]
  · isplitl [H1] <;> iassumption
  isplitl [Hp]; · iexact Hp
  isplitl [Ha]
  · isplitl [Ha]; · iexact Ha
    iempintro
  isplitl [Hk] <;> iassumption

theorem region_post (c : Dev nD) : (region m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) aside (V₂ m c) ∗ emp) ∗ semVal (barCell c) 0 ∗ ∃ W, owes (c : Thread nD τ) (0 : CellTallies nD τ sig Unit) W) ⊢ _
  rw [arrays_eq, aside_eq, bufs_eq]
  iintro ⟨⟨H1, H2⟩, -, ⟨Ha, -⟩, Hb, HO⟩
  isplitr [HO]
  · isplitr [Hb]
    · isplitl [Ha]; · iexact Ha
      isplitl [H1] <;> iassumption
    iexact Hb
  iexact HO

theorem hostOps0_bufs : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs; decide

/-- The host's part: the reshape. -/
def host : Pipeline.HostSeg (Name := ℕ) (U := UU) (pcfgs (F := F)) defs₀ 𝒱₀ L lv :=
  Pipeline.HostSeg.ofOps _ _ _ _ _ bufs hostOps0 hostOps0_bufs (List.forall_iff_forall_mem.mp hostOps0_fresh) (V₀ m) (riding m)

def segs : List (Pipeline.Seg (pcfgs (F := F)) adm (pdats m) () defs₀ 𝒱₀ L lv) := [.host (host m), .region (region m)]
theorem main_eq (c : Dev nD) : main (F := F) c = Pipeline.Seg.run (segs m) :=
  main_segs adm (pdats m) () 𝒱₀ L lv (host m) (region m) rfl c

/-! ## The launch -/

/-- The ghost state the run starts from: the pipeline's at its staging semaphores, the protocol's at its own. -/
def ghost₀ : UU :=
  (initOf (Pipeline.cells (Pipeline.pin (pcfgs (F := F)) adm) cellOf_inj) (Pipeline.launchToks (Pipeline.pin (pcfgs (F := F)) adm) cellOf_inj),
    launchOf barCells xCells minted)

/-- The protocol's part of it, handed to device 0 until all devices' shares are dealt. -/
def dealt (c : Dev nD) : sProp 𝕄 := if c = 0 then BI.own (ER (launchOf barCells xCells minted)) else iprop(emp)
theorem dealt_eq : bigSep Finset.univ (dealt (F := F)) = (BI.own (ER (launchOf barCells xCells minted)) : sProp 𝕄) := by
  rw [bigSep_univ_at _ (0 : Dev nD), bigSep_congr (s := Finset.univ.erase (0 : Dev nD)) (Φ := dealt (F := F)) (Ψ := fun _ => (BI.emp : sProp 𝕄))
    fun c hc => if_neg (Finset.ne_of_mem_erase hc), BI.bigSep_emp_const]
  unfold dealt; rw [if_pos rfl]
  exact BI.equiv_iff.mp sep_emp

/-- A device's start and end. -/
abbrev start (c : Dev nD) : sProp 𝕄 := iprop(StableHlo.held (c : Thread nD τ) bufs (V₀ m c) ∗ riding m c)
abbrev ending (c : Dev nD) : sProp 𝕄 := iprop(StableHlo.held (c : Thread nD τ) bufs (V₂ m c) ∗ semVal (barCell c) 0)

/-- What a device holds at launch beside the protocol's ghost state. -/
def holdings (c : Dev nD) : sProp 𝕄 :=
  iprop(StableHlo.held (c : Thread nD τ) bufs (V₀ m c) ∗ (cred (tallyAt (barCell c) () 2) ∗ bigSep Finset.univ (credAt c))
    ∗ owes (c : Thread nD τ) (O₀ c) ∅ ∗ ∃ r, prngReg c r)

theorem start_of (K : GSem nD τ sig → ℕ) (c : Dev nD) : iprop(records (input m) K ∗ (linear c ∗ holdings m c)) ⊢ start m c := by
  unfold holdings start riding kept
  iintro ⟨#HR, Hl, Hh, ⟨Hb, Hc⟩, HO, Hp⟩
  isplitl [Hh]; · iexact Hh
  isplitl [Hl Hb Hc]
  · isplitl [Hl]
    · iexists K; isplitr; · iexact HR
      iexact Hl
    isplitl [Hb] <;> iassumption
  isplitl [Hp]; · iexact Hp
  iexists ∅; iexact HO

theorem holdings_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ dealt c)
    ⊢ (iprop(holdings m c ∗ (semVal (barCell c) 0 ∗ dealt c)) : sProp 𝕄) := by
  rw [show unscopedBufs c (fun b => m ((c : Thread nD τ).loc b)) = StableHlo.held (c : Thread nD τ) bufs (V₀ m c) from unscopedBufs_held c (V₀ m c),
    unscopedSems0_eq]
  unfold holdings
  iintro ⟨Hh, Hs, HO, Hc, Hp, Hd⟩
  isplitl [Hh HO Hc Hp]
  · isplitl [Hh]; · iexact Hh
    isplitl [Hc]; · iapply (creds (F := F) c) $$ Hc
    isplitl [HO]; · iexact HO
    iexists (ρ c); iexact Hp
  isplitl [Hs] <;> iassumption

/-- From what the devices hold at launch, every device's start: the barriers are funded from their counters, the copies'
    semaphores without theirs, and the tokens go to the devices that pay with them. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt c)) ∗ levAts L lv)
      ⊢ (|={Set.univ}=> bigSep Finset.univ (start m) : sProp 𝕄) := by
  have bars (Φ : GSem nD τ sig → sProp 𝕄) : bigSep barCells Φ = bigSep Finset.univ fun c : Dev nD => Φ (barCell c) := BI.bigSep_map ..
  have xs (Φ : GSem nD τ sig → sProp 𝕄) : bigSep xCells Φ = bigSep Finset.univ fun c : Dev nD => bigSep Finset.univ fun k : XK => Φ (xcell c k) := by
    unfold xCells; rw [BI.bigSep_map, bigSep_univ_prod]; rfl
  refine (sep_mono_left (bigSep_mono fun c _ => holdings_of m ρ c)).trans ?_
  rw [bigSep_sep', bigSep_sep']
  iintro ⟨⟨HH, Hv, Hd⟩, -⟩
  ihave Hu := (Entails.of_eq (dealt_eq (F := F))) $$ Hd
  imod (Rounds.fund_launch ER (sched (input m)) disjoint_cells (fun g _ h => h) minted) $$ [Hv Hu] with ⟨%K, -, #Hinv, #Hr, Hat, Ho, Ht⟩
  · isplitl [Hv]
    · iapply (Entails.of_eq (bars fun g => semVal g 0).symm) $$ Hv
    · iexact Hu
  imodintro
  iapply (bigSep_with_persistent (R := records (input m) K) (Φ := fun c => iprop(linear c ∗ holdings m c)) fun c _ => start_of m K c)
  isplitr
  · unfold records
    isplitr; · iexact Hinv
    iexact Hr
  rw [bigSep_sep']
  isplitr [HH]
  · unfold linear
    rw [bigSep_sep', bigSep_sep']
    isplitl [Hat]; · iapply (Entails.of_eq (bars fun g => atPos ER g 0 ∅ 0)) $$ Hat
    isplitl [Ho]; · iapply (Entails.of_eq (xs fun g => openTok ER g)) $$ Ho
    iapply (Entails.of_eq (minted_eq (F := F))) $$ Ht
  · iexact HH

/-! ## The run -/

set_option backward.isDefEq.respectTransparency.types false in
/-- From any memory with all semaphores at zero, every execution of the program on the four devices ends; then on every device
    the argument is as it was, the result is the total of the four blocks, and every semaphore is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = total (input m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := dealt) (u₀ := ghost₀)
    (hu₀ := by
      unfold ghost₀
      iintro Hu
      ihave H := (ownU_pair _ _) $$ Hu
      icases H with ⟨HP, HX⟩
      imodintro
      isplitl [HP]; · iexact HP
      rw [dealt_eq]; iexact HX)
    (T₀ := start m) (Tₙ := ending m)
    (hch := ⟨fun c => .rfl, fun c => region_pre m c, fun c => region_post m c⟩)
    (hinit := launch m ρ)
    (QY := fun c s => (s.mem ((c : Thread nD τ).loc main_arg0) = V₂ m c main_arg0 ∧ s.mem ((c : Thread nD τ).loc main_v2) = V₂ m c main_v2)
      ∧ s.sem (barCell c) = 0)
    (hfin := fun c s' => by
      dsimp only [ending]; rw [bufs_eq]
      iintro ⟨⟨⟨Ha, -, Hr⟩, Hb⟩, HSI⟩
      icombine HSI Ha gives %ha
      icombine HSI Hr gives %hr
      icombine HSI Hb gives %hb
      imodintro
      isplitr
      · ipureintro
        exact ⟨⟨Buf.eq_of_forall_mem_univ ha, Buf.eq_of_forall_mem_univ hr⟩, by simpa using hb⟩
      iexact HSI)
    (hQ := fun s h hs => ⟨fun c => ⟨(h c).1.1.trans ((V₂_arg m c).trans (V₁_arg m c)), (h c).1.2.trans (V₂_res m c)⟩,
      sem_eq_zero hs fun c sm hsm => by
        obtain rfl := unscoped_bar sm hsm
        exact (h c).2⟩)

end Cert.Butterfly

end
-- ==== Proof.Value.lean ====
/-
  What the kernel leaves in the result, with exact arithmetic, is the reference's sum over the first two dimensions: each
  device's argument is one block of the whole array, the four devices hold the four blocks, and every chunk adds all four.
-/
module

public import proofs.«01_k».proof.Proof.Run
public import proofs.«01_k».proof.Proof.Gen.ReferenceIdeal.Run
public import Idealize.ShloMosaic.Lib.IdealHost
public import Idealize.ShloMosaic.Lib.Layout
public import Idealize.ShloMosaic.Lib.Pipeline.Value
public import Idealize.ShloMosaic.Lib.Pointwise.Reduce

@[expose] public section

noncomputable section

namespace Cert.Butterfly

open Cert.KernelIdeal Cert.KernelIdeal.Gen
open Idealize.ShloMosaic
open Idealize.ShloMosaic.TcCoe

/-- The shape of the whole argument. -/
abbrev Whole : Shape := ⟨4, ![2, 2, 256, 256]⟩

/-- The element of the whole argument in block `(a, b)` at place `j` of the block. -/
def spot (a b : Fin 2) (j : S256x256.Idx) : Whole.Idx
  | ⟨0, _⟩ => a
  | ⟨1, _⟩ => b
  | ⟨2, _⟩ => j 0
  | ⟨3, _⟩ => j 1

/-- An element of a block before its two leading unit dimensions are dropped. -/
def inner (j : S256x256.Idx) : S1x1x256x256.Idx
  | ⟨0, _⟩ => (0 : Fin 1)
  | ⟨1, _⟩ => (0 : Fin 1)
  | ⟨2, _⟩ => j 0
  | ⟨3, _⟩ => j 1

/-- Device `d`'s block of the whole array: its place in the mesh is row `d / 2`, column `d % 2`. -/
def block (v : Whole.Idx → EReal) (d : Dev nD) : Arr Ideal := fun j =>
  v (spot ⟨d.val / 2, by have := d.isLt; change _ < 4 at this; omega⟩ ⟨d.val % 2, Nat.mod_lt _ (by decide)⟩ j)

/-- The elements of the whole array that the reduction sends to place `j` are the ones at place `j` of the four blocks. -/
theorem drop_eq (h : Whole.ReducesTo [0, 1] S256x256) (j : S256x256.Idx) (i : Whole.Idx) :
    h.drop i = j ↔ ∃ k : Fin 2 × Fin 2, spot k.1 k.2 j = i := by
  constructor
  · rintro rfl
    refine ⟨(i 0, i 1), funext fun x => ?_⟩
    match x with
    | ⟨0, _⟩ => rfl
    | ⟨1, _⟩ => rfl
    | ⟨2, _⟩ => rfl
    | ⟨3, _⟩ => rfl
  · rintro ⟨k, rfl⟩
    funext x
    match x with
    | ⟨0, _⟩ => rfl
    | ⟨1, _⟩ => rfl

/-- The reference's sum at place `j`: the four blocks' elements there, added. -/
theorem sum_blocks (h : Whole.ReducesTo [0, 1] S256x256) (v : Whole.Idx → EReal) (j : S256x256.Idx) :
    Ideal.hostReduceAdd h v 0 j = block v 0 j + block v 1 j + (block v 2 j + block v 3 j) := by
  refine (zero_add _).trans ((Finset.sum_filter_eq_sum_of_fiber _ (fun k : Fin 2 × Fin 2 => spot k.1 k.2 j)
    (fun _ _ e => Prod.ext (congrFun e 0) (congrFun e 1)) (drop_eq h j) v).trans ?_)
  rw [Fintype.sum_prod_type, Fin.sum_univ_two, Fin.sum_univ_two, Fin.sum_univ_two]
  rfl

/-- From each device, whichever neighbour comes first, the kernel's order of addition gives the sum of all four. -/
theorem add_order (f : Dev nD → EReal) (b : Bool) (c : Dev nD) :
    f c + f (nb b c) + (f (nb (!b) c) + f (nb b (nb (!b) c))) = f 0 + f 1 + (f 2 + f 3) := by
  have hb : ∀ c : Dev nD, c = 0 ∨ c = 1 ∨ c = 2 ∨ c = 3 := by decide
  cases b <;> obtain rfl | rfl | rfl | rfl := hb c
  all_goals
    simp only [Bool.not_false, Bool.not_true,
      show nb false 0 = 1 from by decide, show nb false 1 = 0 from by decide, show nb false 2 = 3 from by decide, show nb false 3 = 2 from by decide,
      show nb true 0 = 2 from by decide, show nb true 1 = 3 from by decide, show nb true 2 = 0 from by decide, show nb true 3 = 1 from by decide]
  all_goals ac_rfl

/-- What the kernel leaves on device `c`, when the devices' inputs are the blocks of `v`, is at each place the sum of the blocks. -/
theorem total_apply (v : Whole.Idx → EReal) (c : Dev nD) (j : S256x256.Idx) :
    total (block v) c j = block v 0 j + block v 1 j + (block v 2 j + block v 3 j) := by
  have hd : ∀ i : Fin 8, dir true i = !dir false i := by decide
  show block v c j + block v (nb (dir false (sel j)) c) j
    + (block v (nb (dir true (sel j)) c) j + block v (nb (dir false (sel j)) (nb (dir true (sel j)) c)) j) = _
  rw [hd]
  exact add_order (fun d => block v d j) _ c

/-- A device's argument, its two unit dimensions dropped, is its block of the whole array. -/
theorem block_eq (v : Whole.Idx → EReal) (c : Dev nD) :
    shapeCast S256x256 (Layout.blockN ⟨4, ![1, 1, 256, 256]⟩ ⟨4, ![2, 2, 256, 256]⟩ (Layout.meshBlock [2, 2] ![[0], [1], [], []] c) v)
      shapeCasts_S1x1x256x256_S256x256 = block v c := by
  funext j
  refine (shapeCast_apply _ _ j (inner j) ?_).trans ?_
  · rw [Shape.rowMajor_val_two, Shape.rowMajor_val_four]
    show ((0 * 1 + 0) * 256 + (j 0).val) * 256 + (j 1).val = (j 0).val * 256 + (j 1).val
    omega
  · refine congrArg v (funext fun x => Fin.ext ?_)
    have h₀ : ∀ c : Dev nD, Layout.meshLin [2, 2] c.val [0] * 1 + 0 = c.val / 2 := by decide
    have h₁ : ∀ c : Dev nD, Layout.meshLin [2, 2] c.val [1] * 1 + 0 = c.val % 2 := by decide
    match x with
    | ⟨0, _⟩ => exact h₀ c
    | ⟨1, _⟩ => exact h₁ c
    | ⟨2, _⟩ => exact (congrArg (· + (j 0).val) (Nat.zero_mul 256)).trans (Nat.zero_add _)
    | ⟨3, _⟩ => exact (congrArg (· + (j 1).val) (Nat.zero_mul 256)).trans (Nat.zero_add _)

/-- When every device's argument is its block of `v`, every device's result is the sum of `v` over its first two dimensions. -/
theorem total_eq (m : (ℓ : Loc nD τ sig) → Buf (Elt Ideal) ℓ) (v : Whole.Idx → EReal)
    (h : ∀ c : Dev nD, m ((c : Thread nD τ).loc main_arg0)
      = Layout.blockN ⟨4, ![1, 1, 256, 256]⟩ ⟨4, ![2, 2, 256, 256]⟩ (Layout.meshBlock [2, 2] ![[0], [1], [], []] c) v) (c : Dev nD) :
    total (input m) c = Host.reduceAdd (F := Ideal) (φ := .f32) v (constant Cert.ReferenceIdeal.S_ .f32 0x00000000#32)
      Cert.ReferenceIdeal.Gen.reducesTo_S2x2x256x256_S256x256_d0_1 Cert.ReferenceIdeal.Gen.h_S_ := by
  have hX : input m = block v := funext fun d => by
    rw [input_eq, h d]
    exact block_eq v d
  funext j
  rw [hX, total_apply, ValueIdx.hostReduceAdd_apply]
  refine (sum_blocks _ v j).symm.trans (congrArg (fun z => Ideal.hostReduceAdd _ v z j) ?_)
  exact Ideal.ofBits_zero_f32.symm

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

section Same

variable {F : FTy → Type} [FloatOps F]

set_option maxRecDepth 100000 in
/-- The kernel and its idealized program name the same body under their one label. -/
theorem same_bodies : Cert.Kernel.defs₀ (F := F) = Cert.KernelIdeal.defs₀ (F := F) :=
  congrArg Defs.onTc (funext fun label => match label with
    | 0 => rfl
    | ⟨_ + 1, h⟩ => absurd h (Nat.not_lt.2 (Nat.le_add_left _ _)))

set_option maxRecDepth 100000 in
/-- The kernel and its idealized program define the same procedures. -/
theorem same_defs : Cert.Kernel.defs (F := F) = Cert.KernelIdeal.defs (F := F) :=
  congrArg (Pipeline.defs (Cert.KernelIdeal.pcfgs (F := F))) same_bodies

set_option maxRecDepth 100000 in
/-- Both have the same host program. -/
theorem same_main : Cert.Kernel.main (F := F) = Cert.KernelIdeal.main (F := F) := rfl

end Same

/-- The kernel with its own floats: it ends, its argument as before, all semaphores at zero. -/
theorem kernel_ends : Cert.quiescent_Kernel := by
  intro m g _
  rw [same_defs, same_main]
  exact (θ_run _ _ _).mono (fun _ h => ⟨fun c => (h.1 c).1, h.2⟩) (Cert.Butterfly.run_main (F := Bits) m g)

/-- The kernel with exact arithmetic: it ends, its argument as before, all semaphores at zero. -/
theorem ideal_ends : Cert.quiescent_KernelIdeal := by
  intro m g _
  exact (θ_run _ _ _).mono (fun _ h => ⟨fun c => (h.1 c).1, h.2⟩) (Cert.Butterfly.run_main (F := Ideal) m g)

/-- The reference ends, its argument as before; it has no semaphores. -/
theorem reference_ends : Cert.quiescent_ReferenceIdeal := by
  intro m g _
  exact (θ_run _ _ _).mono (fun r h => ⟨fun c => (h c).2, sem_eq_zero_of_no_sems (by decide) r.2⟩)
    (Cert.ReferenceIdeal.Value.run (F := Ideal) m g)

/-- When the devices hold the blocks of the reference's argument, every device's result is the reference's. -/
theorem same_sum : Cert.algebraic_KernelIdeal_ReferenceIdeal := by
  intro m g m' g' _ h
  refine ⟨_, (θ_run _ _ _).mono (fun _ r c => ⟨(r.1 c).2.trans (Cert.Butterfly.total_eq m _ h c), (r.1 c).1⟩)
    (Cert.Butterfly.run_main (F := Ideal) m g), ?_⟩
  exact (θ_run _ _ _).mono (fun _ r => r 0) (Cert.ReferenceIdeal.Value.run (F := Ideal) m' g')

/-- All the claims. -/
theorem claim : Cert.Claim := ⟨Cert.Kernel.Gen.facts, Cert.KernelIdeal.Gen.facts, Cert.ReferenceIdeal.Gen.facts,
  kernel_ends, ideal_ends, reference_ends, trivial, same_sum⟩

end Cert.Proof

end
